-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_in_range [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range [hPre_ids_in_range : Cert.Pre_ids_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_ids_in_range [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_ids_in_range [hReferenceIdeal : Cert.ReferenceIdeal.Facts] [hPre_ids_in_range : Cert.Pre_ids_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_ids_in_range [hKernelIdeal : Cert.KernelIdeal.Facts] [hReferenceIdeal : Cert.ReferenceIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_v111) = v1 c
          ∧ r.2.mem ((c.tc : Thread Cert.ReferenceIdeal.nD Cert.ReferenceIdeal.τ).loc Cert.ReferenceIdeal.main_v113) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_ids_in_range : Cert.Pre_ids_in_range.Facts),
    quiescent_Kernel (hKernel := hKernel)
    ∧ quiescent_KernelIdeal (hKernelIdeal := hKernelIdeal)
    ∧ quiescent_KernelIdeal_pre_ids_in_range (hKernelIdeal := hKernelIdeal) (hPre_ids_in_range := hPre_ids_in_range)
    ∧ quiescent_ReferenceIdeal (hReferenceIdeal := hReferenceIdeal)
    ∧ quiescent_ReferenceIdeal_pre_ids_in_range (hReferenceIdeal := hReferenceIdeal) (hPre_ids_in_range := hPre_ids_in_range)
    ∧ preserves_Kernel_KernelIdeal
    ∧ algebraic_KernelIdeal_ReferenceIdeal_pre_ids_in_range (hKernelIdeal := hKernelIdeal) (hReferenceIdeal := hReferenceIdeal) (hPre_ids_in_range := hPre_ids_in_range)
-- ==== Pre_ids_in_range.lean ====
abbrev S4x128 : Shape := ⟨2, ![4, 128]⟩
abbrev S4x128x128 : Shape := ⟨3, ![4, 128, 128]⟩
abbrev S_ : Shape := ⟨0, ![]⟩

class Facts : Prop where
  bcast_S_S4x128 : S_.BroadcastsInDim S4x128 (![] : Fin 0 → Fin S4x128.rank)

variable [Facts]

def fn {F : FTy → Type} [FloatOps F] (main_arg0 : IVec S4x128 32) (main_arg1 : FVec F S4x128x128 .f32) (main_arg2 : IVec S4x128 32) (main_arg3 : IVec S4x128 32) : IVec S4x128 1 × IVec S4x128 1 × IVec S4x128 1 :=
  let main_c : IVec S_ 32 := constantI S_ 32 0#32
  let main_v0 : IVec S4x128 32 := broadcastInDim S4x128 ![] bcast_S_S4x128 main_c
  let main_v1 : IVec S4x128 1 := cmpi .sge main_arg0 main_v0
  let main_c_0 : IVec S_ 32 := constantI S_ 32 0#32
  let main_v2 : IVec S4x128 32 := broadcastInDim S4x128 ![] bcast_S_S4x128 main_c_0
  let main_v3 : IVec S4x128 1 := cmpi .sge main_arg2 main_v2
  let main_c_1 : IVec S_ 32 := constantI S_ 32 6#32
  let main_v4 : IVec S4x128 32 := broadcastInDim S4x128 ![] bcast_S_S4x128 main_c_1
  let main_v5 : IVec S4x128 1 := cmpi .slt main_arg2 main_v4
  let main_v6 : IVec S4x128 1 := andi main_v3 main_v5
  let main_c_2 : IVec S_ 32 := constantI S_ 32 0#32
  let main_v7 : IVec S4x128 32 := broadcastInDim S4x128 ![] bcast_S_S4x128 main_c_2
  let main_v8 : IVec S4x128 1 := cmpi .sge main_arg3 main_v7
  let main_c_3 : IVec S_ 32 := constantI S_ 32 6#32
  let main_v9 : IVec S4x128 32 := broadcastInDim S4x128 ![] bcast_S_S4x128 main_c_3
  let main_v10 : IVec S4x128 1 := cmpi .slt main_arg3 main_v9
  let main_v11 : IVec S4x128 1 := andi main_v8 main_v10
  (main_v1, main_v6, main_v11)
-- ==== Kernel.lean ====
abbrev S4x128 : Shape := ⟨2, ![4, 128]⟩
abbrev S4x128x128 : Shape := ⟨3, ![4, 128, 128]⟩
abbrev S4x1x128 : Shape := ⟨3, ![4, 1, 128]⟩
abbrev S4x128x128x128 : Shape := ⟨4, ![4, 128, 128, 128]⟩
abbrev S4x128x3x128 : Shape := ⟨4, ![4, 128, 3, 128]⟩
abbrev S1x1x128 : Shape := ⟨3, ![1, 1, 128]⟩
abbrev S1x128x128 : Shape := ⟨3, ![1, 128, 128]⟩
abbrev S1x8x128x128 : Shape := ⟨4, ![1, 8, 128, 128]⟩
abbrev S1x8x3x128 : Shape := ⟨4, ![1, 8, 3, 128]⟩
abbrev S1x128 : Shape := ⟨2, ![1, 128]⟩
abbrev S128x128 : Shape := ⟨2, ![128, 128]⟩
abbrev S128x1 : Shape := ⟨2, ![128, 1]⟩
abbrev S128 : Shape := ⟨1, ![128]⟩
abbrev S8x1x1 : Shape := ⟨3, ![8, 1, 1]⟩
abbrev S8x128x1 : Shape := ⟨3, ![8, 128, 1]⟩
abbrev S8x128x128 : Shape := ⟨3, ![8, 128, 128]⟩
abbrev S8x128 : Shape := ⟨2, ![8, 128]⟩
abbrev S1024x128 : Shape := ⟨2, ![1024, 128]⟩
abbrev S1x8x1x128 : Shape := ⟨4, ![1, 8, 1, 128]⟩
abbrev S4x128x128x3 : Shape := ⟨4, ![4, 128, 128, 3]⟩

abbrev nBuf : Space → Nat
  | .hbm => 12
  | .vmem => 14
  | .smem => 0
  | _ => 0

abbrev bufTy : (tb : Table) → Fin (tcTables nBuf tb) → BufTy
  | .hbm, ⟨0, _⟩ => ⟨S4x128, .i32⟩
  | .hbm, ⟨1, _⟩ => ⟨S4x128x128, .f32⟩
  | .hbm, ⟨2, _⟩ => ⟨S4x128, .i32⟩
  | .hbm, ⟨3, _⟩ => ⟨S4x128, .i32⟩
  | .hbm, ⟨4, _⟩ => ⟨S4x1x128, .i32⟩
  | .hbm, ⟨5, _⟩ => ⟨S4x1x128, .i32⟩
  | .hbm, ⟨6, _⟩ => ⟨S4x1x128, .i32⟩
  | .hbm, ⟨7, _⟩ => ⟨S4x128x128x128, .f32⟩
  | .hbm, ⟨8, _⟩ => ⟨S4x128x3x128, .f32⟩
  | .hbm, ⟨9, _⟩ => ⟨S4x128x3x128, .i32⟩
  | .hbm, ⟨10, _⟩ => ⟨S4x128x128x3, .f32⟩
  | .hbm, ⟨11, _⟩ => ⟨S4x128x128x3, .i32⟩
  | .local _ .vmem, ⟨0, _⟩ => ⟨S1x1x128, .i32⟩
  | .local _ .vmem, ⟨1, _⟩ => ⟨S1x1x128, .i32⟩
  | .local _ .vmem, ⟨2, _⟩ => ⟨S1x1x128, .i32⟩
  | .local _ .vmem, ⟨3, _⟩ => ⟨S1x1x128, .i32⟩
  | .local _ .vmem, ⟨4, _⟩ => ⟨S1x1x128, .i32⟩
  | .local _ .vmem, ⟨5, _⟩ => ⟨S1x1x128, .i32⟩
  | .local _ .vmem, ⟨6, _⟩ => ⟨S1x128x128, .f32⟩
  | .local _ .vmem, ⟨7, _⟩ => ⟨S1x128x128, .f32⟩
  | .local _ .vmem, ⟨8, _⟩ => ⟨S1x8x128x128, .f32⟩
  | .local _ .vmem, ⟨9, _⟩ => ⟨S1x8x128x128, .f32⟩
  | .local _ .vmem, ⟨10, _⟩ => ⟨S1x8x3x128, .f32⟩
  | .local _ .vmem, ⟨11, _⟩ => ⟨S1x8x3x128, .f32⟩
  | .local _ .vmem, ⟨12, _⟩ => ⟨S1x8x3x128, .i32⟩
  | .local _ .vmem, ⟨13, _⟩ => ⟨S1x8x3x128, .i32⟩
  | _, _ => ⟨S4x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x3x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x3x128 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S4x128 : Shape := ⟨2, ![4, 128]⟩
abbrev S4x128x128 : Shape := ⟨3, ![4, 128, 128]⟩
abbrev S_ : Shape := ⟨0, ![]⟩
abbrev S1 : Shape := ⟨1, ![1]⟩
abbrev S6 : Shape := ⟨1, ![6]⟩
abbrev S4 : Shape := ⟨1, ![4]⟩
abbrev S4x1 : Shape := ⟨2, ![4, 1]⟩
abbrev S4x128x1 : Shape := ⟨3, ![4, 128, 1]⟩
abbrev S4x128x2 : Shape := ⟨3, ![4, 128, 2]⟩
abbrev S1x1x1 : Shape := ⟨3, ![1, 1, 1]⟩
abbrev S128 : Shape := ⟨1, ![128]⟩
abbrev S128x1x1 : Shape := ⟨3, ![128, 1, 1]⟩
abbrev S1x128x1 : Shape := ⟨3, ![1, 128, 1]⟩
abbrev S1x1x128 : Shape := ⟨3, ![1, 1, 128]⟩
abbrev S128x1x128 : Shape := ⟨3, ![128, 1, 128]⟩
abbrev S1x128x128 : Shape := ⟨3, ![1, 128, 128]⟩
abbrev S128x128x128 : Shape := ⟨3, ![128, 128, 128]⟩
abbrev S128x128x1 : Shape := ⟨3, ![128, 128, 1]⟩
abbrev S1x128x128x128 : Shape := ⟨4, ![1, 128, 128, 128]⟩
abbrev S4x1x1x128 : Shape := ⟨4, ![4, 1, 1, 128]⟩
abbrev S4x128x128x128 : Shape := ⟨4, ![4, 128, 128, 128]⟩
abbrev S4x128x128x1 : Shape := ⟨4, ![4, 128, 128, 1]⟩
abbrev S4x128x128x3 : Shape := ⟨4, ![4, 128, 128, 3]⟩
abbrev S128x1 : Shape := ⟨2, ![128, 1]⟩
abbrev S1x128 : Shape := ⟨2, ![1, 128]⟩
abbrev S128x128 : Shape := ⟨2, ![128, 128]⟩
abbrev S1x128x128x1 : Shape := ⟨4, ![1, 128, 128, 1]⟩

abbrev nBuf : Space → Nat
  | .hbm => 200
  | .vmem => 0
  | .smem => 0
  | _ => 0

abbrev hbmTy0_0 (i : Nat) : BufTy := match i % 128 with
  | 0 => ⟨S4x128, .i32⟩
  | 1 => ⟨S4x128x128, .f32⟩
  | 2 => ⟨S4x128, .i32⟩
  | 3 => ⟨S4x128, .i32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S1, .f32⟩
  | 11 => ⟨S1, .f32⟩
  | 12 => ⟨S1, .f32⟩
  | 13 => ⟨S1, .f32⟩
  | 14 => ⟨S1, .f32⟩
  | 15 => ⟨S1, .f32⟩
  | 16 => ⟨S6, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S1, .f32⟩
  | 24 => ⟨S1, .f32⟩
  | 25 => ⟨S1, .f32⟩
  | 26 => ⟨S1, .f32⟩
  | 27 => ⟨S1, .f32⟩
  | 28 => ⟨S1, .f32⟩
  | 29 => ⟨S6, .f32⟩
  | 30 => ⟨S4x128x128, .f32⟩
  | 31 => ⟨S4, .i32⟩
  | 32 => ⟨S4x1, .i32⟩
  | 33 => ⟨S4x128, .i32⟩
  | 34 => ⟨S_, .f32⟩
  | 35 => ⟨S4x128, .f32⟩
  | 36 => ⟨S_, .i32⟩
  | 37 => ⟨S4x128, .i32⟩
  | 38 => ⟨S4x128, .i1⟩
  | 39 => ⟨S_, .i32⟩
  | 40 => ⟨S4x128, .i32⟩
  | 41 => ⟨S4x128, .i32⟩
  | 42 => ⟨S4x128, .i32⟩
  | 43 => ⟨S_, .i32⟩
  | 44 => ⟨S4x128, .i32⟩
  | 45 => ⟨S4x128, .i1⟩
  | 46 => ⟨S_, .i32⟩
  | 47 => ⟨S4x128, .i32⟩
  | 48 => ⟨S4x128, .i32⟩
  | 49 => ⟨S4x128, .i32⟩
  | 50 => ⟨S4x128x1, .i32⟩
  | 51 => ⟨S4x128x1, .i32⟩
  | 52 => ⟨S4x128x2, .i32⟩
  | 53 => ⟨S_, .f32⟩
  | 54 => ⟨S4x128, .f32⟩
  | 55 => ⟨S4x128, .f32⟩
  | 56 => ⟨S_, .i32⟩
  | 57 => ⟨S4x128, .i32⟩
  | 58 => ⟨S4x128, .i1⟩
  | 59 => ⟨S_, .i32⟩
  | 60 => ⟨S4x128, .i32⟩
  | 61 => ⟨S4x128, .i32⟩
  | 62 => ⟨S4x128, .i32⟩
  | 63 => ⟨S4x128x1, .i32⟩
  | 64 => ⟨S1, .i32⟩
  | 65 => ⟨S_, .i32⟩
  | 66 => ⟨S4x128x1, .i32⟩
  | 67 => ⟨S4x128x1, .i1⟩
  | 68 => ⟨S1x1x1, .i32⟩
  | 69 => ⟨S4x128x1, .i32⟩
  | 70 => ⟨S4x128x1, .i1⟩
  | 71 => ⟨S4x128x1, .i1⟩
  | 72 => ⟨S_, .i1⟩
  | 73 => ⟨S4x128, .i1⟩
  | 74 => ⟨S4x128, .f32⟩
  | 75 => ⟨S_, .f32⟩
  | 76 => ⟨S4x128, .f32⟩
  | 77 => ⟨S4x128, .f32⟩
  | 78 => ⟨S_, .i32⟩
  | 79 => ⟨S4x128, .i32⟩
  | 80 => ⟨S4x128, .i1⟩
  | 81 => ⟨S_, .i32⟩
  | 82 => ⟨S4x128, .i32⟩
  | 83 => ⟨S4x128, .i32⟩
  | 84 => ⟨S4x128, .i32⟩
  | 85 => ⟨S4x128x1, .i32⟩
  | 86 => ⟨S1, .i32⟩
  | 87 => ⟨S_, .i32⟩
  | 88 => ⟨S4x128x1, .i32⟩
  | 89 => ⟨S4x128x1, .i1⟩
  | 90 => ⟨S1x1x1, .i32⟩
  | 91 => ⟨S4x128x1, .i32⟩
  | 92 => ⟨S4x128x1, .i1⟩
  | 93 => ⟨S4x128x1, .i1⟩
  | 94 => ⟨S_, .i1⟩
  | 95 => ⟨S4x128, .i1⟩
  | 96 => ⟨S4x128, .f32⟩
  | 97 => ⟨S_, .f32⟩
  | 98 => ⟨S4x128, .f32⟩
  | 99 => ⟨S4x128, .f32⟩
  | 100 => ⟨S_, .f32⟩
  | 101 => ⟨S4x128, .f32⟩
  | 102 => ⟨S4x128, .f32⟩
  | 103 => ⟨S_, .f32⟩
  | 104 => ⟨S4x128, .f32⟩
  | 105 => ⟨S4x128, .f32⟩
  | 106 => ⟨S_, .f32⟩
  | 107 => ⟨S4x128, .f32⟩
  | 108 => ⟨S4x128, .f32⟩
  | 109 => ⟨S4x128, .f32⟩
  | 110 => ⟨S_, .f32⟩
  | 111 => ⟨S4x128, .f32⟩
  | 112 => ⟨S4x128, .f32⟩
  | 113 => ⟨S4x128, .f32⟩
  | 114 => ⟨S128, .f32⟩
  | 115 => ⟨S128x1x1, .f32⟩
  | 116 => ⟨S128, .f32⟩
  | 117 => ⟨S1x128x1, .f32⟩
  | 118 => ⟨S128, .f32⟩
  | 119 => ⟨S1x1x128, .f32⟩
  | 120 => ⟨S128x1x128, .f32⟩
  | 121 => ⟨S128x1x128, .f32⟩
  | 122 => ⟨S128x1x128, .i1⟩
  | 123 => ⟨S1x128x128, .f32⟩
  | 124 => ⟨S1x128x128, .f32⟩
  | 125 => ⟨S1x128x128, .i1⟩
  | 126 => ⟨S128x128x128, .i1⟩
  | 127 => ⟨S128x128x128, .i1⟩
  | _ => ⟨S4x128, .i32⟩

abbrev hbmTy0_1 (i : Nat) : BufTy := match i % 128 with
  | 0 => ⟨S128x128x128, .i1⟩
  | 1 => ⟨S128x128x1, .f32⟩
  | 2 => ⟨S128x128x1, .f32⟩
  | 3 => ⟨S128x128x1, .f32⟩
  | 4 => ⟨S_, .f32⟩
  | 5 => ⟨S128x128x1, .f32⟩
  | 6 => ⟨S128x128x1, .f32⟩
  | 7 => ⟨S128x128x128, .f32⟩
  | 8 => ⟨S128x128x128, .f32⟩
  | 9 => ⟨S128x128x128, .f32⟩
  | 10 => ⟨S128x128x128, .f32⟩
  | 11 => ⟨S_, .f32⟩
  | 12 => ⟨S128x128x128, .f32⟩
  | 13 => ⟨S128x128x128, .f32⟩
  | 14 => ⟨S_, .f32⟩
  | 15 => ⟨S128x128x128, .f32⟩
  | 16 => ⟨S128x128x128, .f32⟩
  | 17 => ⟨S_, .f32⟩
  | 18 => ⟨S128x128x128, .f32⟩
  | 19 => ⟨S128x128x128, .f32⟩
  | 20 => ⟨S1x128x128x128, .i1⟩
  | 21 => ⟨S4x1x1x128, .f32⟩
  | 22 => ⟨S1x128x128x128, .f32⟩
  | 23 => ⟨S4x128x128x128, .f32⟩
  | 24 => ⟨S4x128x128x128, .f32⟩
  | 25 => ⟨S4x128x128x128, .f32⟩
  | 26 => ⟨S_, .f32⟩
  | 27 => ⟨S_, .f32⟩
  | 28 => ⟨S4x128x128x128, .i1⟩
  | 29 => ⟨S4x128x128x128, .f32⟩
  | 30 => ⟨S4x128x128x128, .f32⟩
  | 31 => ⟨S_, .f32⟩
  | 32 => ⟨S4x128x128x128, .f32⟩
  | 33 => ⟨S4x128x128x128, .f32⟩
  | 34 => ⟨S_, .f32⟩
  | 35 => ⟨S4x128x128, .f32⟩
  | 36 => ⟨S_, .f32⟩
  | 37 => ⟨S4x128x128, .f32⟩
  | 38 => ⟨S4x128x128, .f32⟩
  | 39 => ⟨S4x128x128x1, .f32⟩
  | 40 => ⟨S4x128x128x128, .f32⟩
  | 41 => ⟨S4x128x128x128, .f32⟩
  | 42 => ⟨S4x128x128x128, .f32⟩
  | 43 => ⟨S_, .f32⟩
  | 44 => ⟨S4x128x128, .f32⟩
  | 45 => ⟨S4x128x128x1, .f32⟩
  | 46 => ⟨S4x128x128x128, .f32⟩
  | 47 => ⟨S4x128x128x128, .f32⟩
  | 48 => ⟨S4x128x128x3, .f32⟩
  | 49 => ⟨S4x128x128x3, .i32⟩
  | 50 => ⟨S4x128x128x128, .f32⟩
  | 51 => ⟨S128, .i32⟩
  | 52 => ⟨S128x1, .i32⟩
  | 53 => ⟨S128, .i32⟩
  | 54 => ⟨S1x128, .i32⟩
  | 55 => ⟨S128x128, .i32⟩
  | 56 => ⟨S128x128, .i32⟩
  | 57 => ⟨S128x128, .i1⟩
  | 58 => ⟨S1x128x128x1, .i1⟩
  | 59 => ⟨S1x128x128x1, .f32⟩
  | 60 => ⟨S4x128x128x128, .f32⟩
  | 61 => ⟨S4x128x128x128, .f32⟩
  | 62 => ⟨S1x128x128x1, .i1⟩
  | 63 => ⟨S1x128x128x1, .f32⟩
  | 64 => ⟨S4x128x128x3, .f32⟩
  | 65 => ⟨S4x128x128x3, .f32⟩
  | 66 => ⟨S1x128x128x1, .i1⟩
  | 67 => ⟨S_, .i32⟩
  | 68 => ⟨S_, .i32⟩
  | 69 => ⟨S4x128x128x3, .i1⟩
  | 70 => ⟨S4x128x128x3, .i32⟩
  | 71 => ⟨S4x128x128x3, .i32⟩
  | _ => ⟨S4x128, .i32⟩

abbrev hbmTy (i : Nat) : BufTy := match i / 128 with
  | 0 => hbmTy0_0 i
  | 1 => hbmTy0_1 i
  | _ => ⟨S4x128, .i32⟩

abbrev bufTy : (tb : Table) → Fin (tcTables nBuf tb) → BufTy
  | .hbm, ⟨i, _⟩ => hbmTy i
  | _, _ => ⟨S4x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_cst_1 : Ref sig .tc := ⟨.hbm, 6, rfl⟩
abbrev main_cst_2 : Ref sig .tc := ⟨.hbm, 7, rfl⟩
abbrev main_cst_3 : Ref sig .tc := ⟨.hbm, 8, rfl⟩
abbrev main_cst_4 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_5 : Ref sig .tc := ⟨.hbm, 17, rfl⟩
abbrev main_cst_6 : Ref sig .tc := ⟨.hbm, 18, rfl⟩
abbrev main_cst_7 : Ref sig .tc := ⟨.hbm, 19, rfl⟩
abbrev main_cst_8 : Ref sig .tc := ⟨.hbm, 20, rfl⟩
abbrev main_cst_9 : Ref sig .tc := ⟨.hbm, 21, rfl⟩
abbrev main_cst_10 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_11 : Ref sig .tc := ⟨.hbm, 34, rfl⟩
abbrev main_v18 : Ref sig .tc := ⟨.hbm, 35, rfl⟩
abbrev main_c : Ref sig .tc := ⟨.hbm, 36, rfl⟩
abbrev main_v19 : Ref sig .tc := ⟨.hbm, 37, rfl⟩
abbrev main_v20 : Ref sig .tc := ⟨.hbm, 38, rfl⟩
abbrev main_c_12 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_13 : Ref sig .tc := ⟨.hbm, 43, rfl⟩
abbrev main_v24 : Ref sig .tc := ⟨.hbm, 44, rfl⟩
abbrev main_v25 : Ref sig .tc := ⟨.hbm, 45, rfl⟩
abbrev main_c_14 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_15 : Ref sig .tc := ⟨.hbm, 53, rfl⟩
abbrev main_v32 : Ref sig .tc := ⟨.hbm, 54, rfl⟩
abbrev main_v33 : Ref sig .tc := ⟨.hbm, 55, rfl⟩
abbrev main_call0_c : Ref sig .tc := ⟨.hbm, 56, rfl⟩
abbrev main_call0_v0 : Ref sig .tc := ⟨.hbm, 57, rfl⟩
abbrev main_call0_v1 : Ref sig .tc := ⟨.hbm, 58, rfl⟩
abbrev main_call0_c_0 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_call0_v5 : Ref sig .tc := ⟨.hbm, 63, rfl⟩
abbrev main_call0_c_1 : Ref sig .tc := ⟨.hbm, 64, rfl⟩
abbrev main_call0_c_2 : Ref sig .tc := ⟨.hbm, 65, rfl⟩
abbrev main_call0_v6 : Ref sig .tc := ⟨.hbm, 66, rfl⟩
abbrev main_call0_v7 : Ref sig .tc := ⟨.hbm, 67, rfl⟩
abbrev main_call0_v8 : Ref sig .tc := ⟨.hbm, 68, rfl⟩
abbrev main_call0_v9 : Ref sig .tc := ⟨.hbm, 69, rfl⟩
abbrev main_call0_v10 : Ref sig .tc := ⟨.hbm, 70, rfl⟩
abbrev main_call0_v11 : Ref sig .tc := ⟨.hbm, 71, rfl⟩
abbrev main_call0_c_3 : Ref sig .tc := ⟨.hbm, 72, rfl⟩
abbrev main_call0_v12 : Ref sig .tc := ⟨.hbm, 73, rfl⟩
abbrev main_call0_v13 : Ref sig .tc := ⟨.hbm, 74, rfl⟩
abbrev main_call0_cst : Ref sig .tc := ⟨.hbm, 75, rfl⟩
abbrev main_call0_v14 : Ref sig .tc := ⟨.hbm, 76, rfl⟩
abbrev main_v34 : Ref sig .tc := ⟨.hbm, 77, rfl⟩
abbrev main_call1_c : Ref sig .tc := ⟨.hbm, 78, rfl⟩
abbrev main_call1_v0 : Ref sig .tc := ⟨.hbm, 79, rfl⟩
abbrev main_call1_v1 : Ref sig .tc := ⟨.hbm, 80, rfl⟩
abbrev main_call1_c_0 : Ref sig .tc := ⟨.hbm, 81, rfl⟩
abbrev main_call1_v2 : Ref sig .tc := ⟨.hbm, 82, rfl⟩
abbrev main_call1_v3 : Ref sig .tc := ⟨.hbm, 83, rfl⟩
abbrev main_call1_v4 : Ref sig .tc := ⟨.hbm, 84, rfl⟩
abbrev main_call1_v5 : Ref sig .tc := ⟨.hbm, 85, rfl⟩
abbrev main_call1_c_1 : Ref sig .tc := ⟨.hbm, 86, rfl⟩
abbrev main_call1_c_2 : Ref sig .tc := ⟨.hbm, 87, rfl⟩
abbrev main_call1_v6 : Ref sig .tc := ⟨.hbm, 88, rfl⟩
abbrev main_call1_v7 : Ref sig .tc := ⟨.hbm, 89, rfl⟩
abbrev main_call1_v8 : Ref sig .tc := ⟨.hbm, 90, rfl⟩
abbrev main_call1_v9 : Ref sig .tc := ⟨.hbm, 91, rfl⟩
abbrev main_call1_v10 : Ref sig .tc := ⟨.hbm, 92, rfl⟩
abbrev main_call1_v11 : Ref sig .tc := ⟨.hbm, 93, rfl⟩
abbrev main_call1_c_3 : Ref sig .tc := ⟨.hbm, 94, rfl⟩
abbrev main_call1_v12 : Ref sig .tc := ⟨.hbm, 95, rfl⟩
abbrev main_call1_v13 : Ref sig .tc := ⟨.hbm, 96, rfl⟩
abbrev main_call1_cst : Ref sig .tc := ⟨.hbm, 97, rfl⟩
abbrev main_call1_v14 : Ref sig .tc := ⟨.hbm, 98, rfl⟩
abbrev main_v35 : Ref sig .tc := ⟨.hbm, 99, rfl⟩
abbrev main_cst_16 : Ref sig .tc := ⟨.hbm, 100, rfl⟩
abbrev main_v36 : Ref sig .tc := ⟨.hbm, 101, rfl⟩
abbrev main_v37 : Ref sig .tc := ⟨.hbm, 102, rfl⟩
abbrev main_cst_17 : Ref sig .tc := ⟨.hbm, 103, rfl⟩
abbrev main_v38 : Ref sig .tc := ⟨.hbm, 104, rfl⟩
abbrev main_v39 : Ref sig .tc := ⟨.hbm, 105, rfl⟩
abbrev main_cst_18 : Ref sig .tc := ⟨.hbm, 106, rfl⟩
abbrev main_v40 : Ref sig .tc := ⟨.hbm, 107, rfl⟩
abbrev main_v41 : Ref sig .tc := ⟨.hbm, 108, rfl⟩
abbrev main_v42 : Ref sig .tc := ⟨.hbm, 109, rfl⟩
abbrev main_cst_19 : Ref sig .tc := ⟨.hbm, 110, rfl⟩
abbrev main_v43 : Ref sig .tc := ⟨.hbm, 111, rfl⟩
abbrev main_v44 : Ref sig .tc := ⟨.hbm, 112, rfl⟩
abbrev main_v45 : Ref sig .tc := ⟨.hbm, 113, rfl⟩
abbrev main_v46 : Ref sig .tc := ⟨.hbm, 114, rfl⟩
abbrev main_v47 : Ref sig .tc := ⟨.hbm, 115, rfl⟩
abbrev main_v48 : Ref sig .tc := ⟨.hbm, 116, rfl⟩
abbrev main_v49 : Ref sig .tc := ⟨.hbm, 117, rfl⟩
abbrev main_v50 : Ref sig .tc := ⟨.hbm, 118, rfl⟩
abbrev main_v51 : Ref sig .tc := ⟨.hbm, 119, rfl⟩
abbrev main_v52 : Ref sig .tc := ⟨.hbm, 120, rfl⟩
abbrev main_v53 : Ref sig .tc := ⟨.hbm, 121, rfl⟩
abbrev main_v54 : Ref sig .tc := ⟨.hbm, 122, rfl⟩
abbrev main_v55 : Ref sig .tc := ⟨.hbm, 123, rfl⟩
abbrev main_v56 : Ref sig .tc := ⟨.hbm, 124, rfl⟩
abbrev main_v57 : Ref sig .tc := ⟨.hbm, 125, rfl⟩
abbrev main_v58 : Ref sig .tc := ⟨.hbm, 126, rfl⟩
abbrev main_v59 : Ref sig .tc := ⟨.hbm, 127, rfl⟩
abbrev main_v60 : Ref sig .tc := ⟨.hbm, 128, rfl⟩
abbrev main_v61 : Ref sig .tc := ⟨.hbm, 129, rfl⟩
abbrev main_v62 : Ref sig .tc := ⟨.hbm, 130, rfl⟩
abbrev main_v63 : Ref sig .tc := ⟨.hbm, 131, rfl⟩
abbrev main_cst_20 : Ref sig .tc := ⟨.hbm, 132, rfl⟩
abbrev main_v64 : Ref sig .tc := ⟨.hbm, 133, rfl⟩
abbrev main_v65 : Ref sig .tc := ⟨.hbm, 134, rfl⟩
abbrev main_v66 : Ref sig .tc := ⟨.hbm, 135, rfl⟩
abbrev main_v67 : Ref sig .tc := ⟨.hbm, 136, rfl⟩
abbrev main_v68 : Ref sig .tc := ⟨.hbm, 137, rfl⟩
abbrev main_v69 : Ref sig .tc := ⟨.hbm, 138, rfl⟩
abbrev main_cst_21 : Ref sig .tc := ⟨.hbm, 139, rfl⟩
abbrev main_v70 : Ref sig .tc := ⟨.hbm, 140, rfl⟩
abbrev main_v71 : Ref sig .tc := ⟨.hbm, 141, rfl⟩
abbrev main_cst_22 : Ref sig .tc := ⟨.hbm, 142, rfl⟩
abbrev main_v72 : Ref sig .tc := ⟨.hbm, 143, rfl⟩
abbrev main_v73 : Ref sig .tc := ⟨.hbm, 144, rfl⟩
abbrev main_cst_23 : Ref sig .tc := ⟨.hbm, 145, rfl⟩
abbrev main_v74 : Ref sig .tc := ⟨.hbm, 146, rfl⟩
abbrev main_v75 : Ref sig .tc := ⟨.hbm, 147, rfl⟩
abbrev main_v76 : Ref sig .tc := ⟨.hbm, 148, rfl⟩
abbrev main_v77 : Ref sig .tc := ⟨.hbm, 149, rfl⟩
abbrev main_v78 : Ref sig .tc := ⟨.hbm, 150, rfl⟩
abbrev main_v79 : Ref sig .tc := ⟨.hbm, 151, rfl⟩
abbrev main_v80 : Ref sig .tc := ⟨.hbm, 152, rfl⟩
abbrev main_v81 : Ref sig .tc := ⟨.hbm, 153, rfl⟩
abbrev main_cst_24 : Ref sig .tc := ⟨.hbm, 154, rfl⟩
abbrev main_call2_v0 : Ref sig .tc := ⟨.hbm, 155, rfl⟩
abbrev main_call2_v1 : Ref sig .tc := ⟨.hbm, 156, rfl⟩
abbrev main_call2_v2 : Ref sig .tc := ⟨.hbm, 157, rfl⟩
abbrev main_v82 : Ref sig .tc := ⟨.hbm, 158, rfl⟩
abbrev main_cst_25 : Ref sig .tc := ⟨.hbm, 159, rfl⟩
abbrev main_v83 : Ref sig .tc := ⟨.hbm, 160, rfl⟩
abbrev main_v84 : Ref sig .tc := ⟨.hbm, 161, rfl⟩
abbrev main_cst_26 : Ref sig .tc := ⟨.hbm, 162, rfl⟩
abbrev main_v85 : Ref sig .tc := ⟨.hbm, 163, rfl⟩
abbrev main_cst_27 : Ref sig .tc := ⟨.hbm, 164, rfl⟩
abbrev main_v86 : Ref sig .tc := ⟨.hbm, 165, rfl⟩
abbrev main_v87 : Ref sig .tc := ⟨.hbm, 166, rfl⟩
abbrev main_v88 : Ref sig .tc := ⟨.hbm, 167, rfl⟩
abbrev main_v89 : Ref sig .tc := ⟨.hbm, 168, rfl⟩
abbrev main_v90 : Ref sig .tc := ⟨.hbm, 169, rfl⟩
abbrev main_v91 : Ref sig .tc := ⟨.hbm, 170, rfl⟩
abbrev main_cst_28 : Ref sig .tc := ⟨.hbm, 171, rfl⟩
abbrev main_v92 : Ref sig .tc := ⟨.hbm, 172, rfl⟩
abbrev main_v93 : Ref sig .tc := ⟨.hbm, 173, rfl⟩
abbrev main_v94 : Ref sig .tc := ⟨.hbm, 174, rfl⟩
abbrev main_v95 : Ref sig .tc := ⟨.hbm, 175, rfl⟩
abbrev main_values : Ref sig .tc := ⟨.hbm, 176, rfl⟩
abbrev main_indices : Ref sig .tc := ⟨.hbm, 177, rfl⟩
abbrev main_v96 : Ref sig .tc := ⟨.hbm, 178, rfl⟩
abbrev main_v97 : Ref sig .tc := ⟨.hbm, 179, rfl⟩
abbrev main_v98 : Ref sig .tc := ⟨.hbm, 180, rfl⟩
abbrev main_v99 : Ref sig .tc := ⟨.hbm, 181, rfl⟩
abbrev main_v100 : Ref sig .tc := ⟨.hbm, 182, rfl⟩
abbrev main_v101 : Ref sig .tc := ⟨.hbm, 183, rfl⟩
abbrev main_v102 : Ref sig .tc := ⟨.hbm, 184, rfl⟩
abbrev main_v103 : Ref sig .tc := ⟨.hbm, 185, rfl⟩
abbrev main_v104 : Ref sig .tc := ⟨.hbm, 186, rfl⟩
abbrev main_v105 : Ref sig .tc := ⟨.hbm, 187, rfl⟩
abbrev main_v106 : Ref sig .tc := ⟨.hbm, 188, rfl⟩
abbrev main_v107 : Ref sig .tc := ⟨.hbm, 189, rfl⟩
abbrev main_v108 : Ref sig .tc := ⟨.hbm, 190, rfl⟩
abbrev main_v109 : Ref sig .tc := ⟨.hbm, 191, rfl⟩
abbrev main_v110 : Ref sig .tc := ⟨.hbm, 192, rfl⟩
abbrev main_v111 : Ref sig .tc := ⟨.hbm, 193, rfl⟩
abbrev main_v112 : Ref sig .tc := ⟨.hbm, 194, rfl⟩
abbrev main_c_29 : Ref sig .tc := ⟨.hbm, 195, rfl⟩
abbrev main_call3_v0 : Ref sig .tc := ⟨.hbm, 196, rfl⟩
abbrev main_call3_v1 : Ref sig .tc := ⟨.hbm, 197, rfl⟩
abbrev main_call3_v2 : Ref sig .tc := ⟨.hbm, 198, rfl⟩
abbrev main_v113 : Ref sig .tc := ⟨.hbm, 199, rfl⟩

abbrev nD : Nat := 1
abbrev τ : Topo := Topo.v7x

variable {F : FTy → Type} [FloatOps F]
-- ==== Proof.TopK.lean ====
/- The first places of a stable descending sort, and the same places found by repeated maximum: what a top-k of a row of
   numbers returns, and what a loop that takes the largest number, notes the first position that holds it and overwrites
   that position with a smaller number returns. No program is named here. -/
module

public import Idealize.ShloMosaic.Lib.SortPrefix
public import Idealize.ShloMosaic.Lib.WordArith
public import Idealize.ShloMosaic.PureOps.Reduce
public import Mathlib.Data.EReal.Basic

@[expose] public section

noncomputable section

namespace Cert.Spans

open Idealize.ShloMosaic

variable {n : ℕ}

/-- Position `k` comes before position `k'`: its number is larger, or the two are equal and `k` is the smaller position. -/
def before (v : Fin n → EReal) (k k' : Fin n) : Bool :=
  decide (v k' < v k) || (decide (v k = v k') && decide (k < k'))

/-- `before` is a strict total order on the positions. -/
theorem before_strict (v : Fin n → EReal) : StrictTotalBefore (before v) :=
  StrictTotalBefore.of_key_then_position (fun a b : EReal => decide (b < a)) v (by simp)
    (fun a b c h h' => by
      simp only [decide_eq_true_eq] at *
      exact lt_trans h' h)
    (fun a b => by
      simp only [decide_eq_true_eq]
      rcases lt_trichotomy a b with h | h | h
      · exact Or.inr (Or.inr h)
      · exact Or.inr (Or.inl h)
      · exact Or.inl h)

/-- A stable sort of increasing positions by the numbers alone is the sort by `before`: a stable sort breaks ties by
    position. -/
theorem stableSort_eq (v : Fin n → EReal) : ∀ l : List (Fin n), l.Pairwise (· < ·) →
    stableSort (fun k k' => decide (v k' < v k)) l = stableSort (before v) l
  | [], _ => rfl
  | a :: l, h => by
    rw [List.pairwise_cons] at h
    unfold stableSort
    rw [stableSort_eq v l h.2]
    refine insertBefore_congr _ _ a _ fun b hb => ?_
    have hab : a < b := h.1 b ((perm_stableSort _ _).mem_iff.1 hb)
    simp [before, not_lt.2 hab.le]

/-- The position whose number a stable descending sort of `v` puts at place `k`. -/
def order (v : Fin n → EReal) : Fin n → Fin n := sortedFrom fun k k' => decide (v k' < v k)

theorem order_eq (v : Fin n → EReal) : order v = sortedFrom (before v) := by
  funext k
  have e : sortPositions n (fun k k' => decide (v k' < v k)) = sortPositions n (before v) :=
    stableSort_eq v (List.finRange n) (List.pairwise_lt_finRange n)
  unfold order sortedFrom
  rw [List.get_of_eq e]
  rfl

theorem order_injective (v : Fin n → EReal) : Function.Injective (order v) := sortedFrom_injective _

theorem order_surjective (v : Fin n → EReal) : Function.Surjective (order v) := sortedFrom_surjective _

/-- A later place's position is not before an earlier place's. -/
theorem order_sorted (v : Fin n → EReal) (i j : Fin n) (hij : i < j) : before v (order v j) (order v i) = false := by
  rw [order_eq]
  have hB := before_strict v
  exact sortedFrom_noInversion (before v) (before v) hB.asymm (fun _ _ h => h) hB.negTrans i j hij

/-- `v` with the positions of the places before `k` overwritten by `c`. -/
def masked (v : Fin n → EReal) (c : EReal) (k : Fin n) (t : Fin n) : EReal :=
  open Classical in if ∃ j, j < k ∧ order v j = t then c else v t

/-- Nothing is overwritten at place `k`'s own position. -/
theorem masked_order (v : Fin n → EReal) (c : EReal) (k : Fin n) : masked v c k (order v k) = v (order v k) := by
  unfold masked
  rw [if_neg]
  rintro ⟨j, hj, e⟩
  exact absurd (order_injective v e) hj.ne

/-- With the earlier places overwritten by a smaller number, place `k`'s position holds the largest number. -/
theorem masked_le (v : Fin n → EReal) (c : EReal) (hc : ∀ t, c < v t) (k t : Fin n) :
    masked v c k t ≤ masked v c k (order v k) := by
  rw [masked_order]
  obtain ⟨j, rfl⟩ := order_surjective v t
  rcases lt_trichotomy j k with h | rfl | h
  · unfold masked
    rw [if_pos ⟨j, h, rfl⟩]
    exact (hc _).le
  · rw [masked_order]
  · have hb := order_sorted v k j h
    simp only [before, Bool.or_eq_false_iff, decide_eq_false_iff_not, not_lt] at hb
    refine le_trans ?_ hb.1
    unfold masked
    split
    · exact (hc _).le
    · exact le_rfl

/-- … and it is the first position that holds it. -/
theorem masked_first (v : Fin n → EReal) (c : EReal) (hc : ∀ t, c < v t) (k t : Fin n)
    (h : masked v c k t = masked v c k (order v k)) : order v k ≤ t := by
  rw [masked_order] at h
  obtain ⟨j, rfl⟩ := order_surjective v t
  rcases lt_trichotomy j k with hj | rfl | hj
  · unfold masked at h
    rw [if_pos ⟨j, hj, rfl⟩] at h
    exact absurd h (hc _).ne
  · exact le_rfl
  · have hb := order_sorted v k j hj
    have e : v (order v j) = v (order v k) := by
      unfold masked at h
      rwa [if_neg] at h
      rintro ⟨i, hi, e⟩
      exact absurd (order_injective v e) (hi.trans hj).ne
    simp only [before, Bool.or_eq_false_iff, Bool.and_eq_false_iff, decide_eq_false_iff_not, not_lt] at hb
    rcases hb.2 with h' | h'
    · exact absurd e h'
    · exact h'

/-- Before place 0 nothing is overwritten. -/
theorem masked_zero [NeZero n] (v : Fin n → EReal) (c : EReal) : masked v c 0 = v := by
  funext t
  unfold masked
  rw [if_neg]
  rintro ⟨j, hj, -⟩
  exact absurd hj (by simp)

/-- Overwriting place `k`'s position too gives the row for the next place. -/
theorem masked_succ (v : Fin n → EReal) (c : EReal) (k k' : Fin n) (hk : k'.val = k.val + 1) (t : Fin n) :
    (if t = order v k then c else masked v c k t) = masked v c k' t := by
  classical
  unfold masked
  by_cases h : t = order v k
  · rw [if_pos h, if_pos ⟨k, by rw [Fin.lt_def]; omega, h.symm⟩]
  · rw [if_neg h]
    refine if_congr ⟨?_, ?_⟩ rfl rfl
    · rintro ⟨j, hj, e⟩
      exact ⟨j, by rw [Fin.lt_def] at *; omega, e⟩
    · rintro ⟨j, hj, e⟩
      refine ⟨j, ?_, e⟩
      rcases lt_or_eq_of_le (show j ≤ k by rw [Fin.le_def]; rw [Fin.lt_def] at hj; omega) with h' | rfl
      · exact h'
      · exact absurd e.symm h

/-! ## The two reductions of a round -/

/-- The running maximum of a row from `⊥` is the number at a position that holds the largest. -/
theorem fold_max_eq (w : Fin n → EReal) (a : Fin n) (h : ∀ t, w t ≤ w a) :
    Finset.univ.fold max ⊥ w = w a :=
  le_antisymm ((Finset.fold_max_le _).2 ⟨bot_le, fun t _ => h t⟩)
    ((Finset.le_fold_max _).2 (Or.inr ⟨a, Finset.mem_univ a, le_rfl⟩))

theorem minsi_toInt (a b : BitVec 32) : (IntOp.minsi a b).toInt = min a.toInt b.toInt := by
  unfold IntOp.minsi
  simp only [BitVec.slt_eq_decide, BitVec.sle_eq_decide]
  split <;> simp_all <;> omega

/-- The running minimum, from the largest word, of the positions that hold the number `m` (and of 128 elsewhere) is the
    first position that holds it. -/
theorem fold_min_eq (w : Fin 128 → EReal) (m : EReal) (a : Fin 128) (ha : w a = m) (h : ∀ t, w t = m → a ≤ t) :
    Finset.univ.fold IntOp.minsi 2147483647#32 (fun t : Fin 128 => if w t = m then BitVec.ofNat 32 t.val else 128#32)
      = BitVec.ofNat 32 a.val := by
  refine BitVec.eq_of_toInt_eq ?_
  have small := WordArith.toInt_ofNat_small
  rw [← Finset.fold_hom (op' := min) minsi_toInt, small a.val (by omega)]
  have hf : ∀ t : Fin 128,
      (if w t = m then BitVec.ofNat 32 t.val else 128#32).toInt = if w t = m then (t.val : ℤ) else 128 := fun t => by
    split
    · exact small t.val (by omega)
    · rfl
  simp only [hf]
  refine le_antisymm ((Finset.fold_min_le _).2 (Or.inr ⟨a, Finset.mem_univ a, by rw [if_pos ha]⟩))
    ((Finset.le_fold_min _).2 ⟨?_, fun t _ => ?_⟩)
  · have : (2147483647#32).toInt = 2147483647 := by decide
    omega
  · split
    · rename_i e
      have := Fin.le_def.1 (h t e)
      omega
    · omega

end Cert.Spans

end
-- ==== Proof.Spec.lean ====
/- What the kernel and the reference compute, written once: for a sentence of 128 tokens, with a parent, a
   part-of-speech id and a relation id per token, the score of token `t` in the span from `l` to `r`, the softmax of the
   scores along `t`, the weighted token embeddings, and the three most probable heads. No program is named here. -/
module

public import proofs.«01_k».proof.Proof.TopK
public import Idealize.ShloMosaic.Lib.Pointwise

@[expose] public section

noncomputable section

namespace Cert.Spans

open Idealize.ShloMosaic

/-! ## The constants, as the numbers their words denote -/

theorem word_half : Ideal.ofBits FTy.f32 1056964608#32 = ((1 / 2 : ℝ) : EReal) := by
  simp [Ideal.ofBits, Ideal.ieee, -EReal.coe_mul]; norm_num

theorem word_two : Ideal.ofBits FTy.f32 1073741824#32 = ((2 : ℝ) : EReal) := by
  simp [Ideal.ofBits, Ideal.ieee, -EReal.coe_mul]; norm_num

theorem word_negInf : Ideal.ofBits FTy.f32 4286578688#32 = ⊥ := by
  simp [Ideal.ofBits, Ideal.ieee]

theorem word_negOne : Ideal.ofBits FTy.f32 3212836864#32 = ((-1 : ℝ) : EReal) := by
  simp [Ideal.ofBits, Ideal.ieee, -EReal.coe_mul]; norm_num

/-- The weight of a token's number of children. -/
theorem word_degree : Ideal.ofBits FTy.f32 1069547520#32 = ((3 / 2 : ℝ) : EReal) := by
  simp [Ideal.ofBits, Ideal.ieee, -EReal.coe_mul]; norm_num

theorem word_temperature : ∃ r : ℝ, r ≠ 0 ∧ Ideal.ofBits FTy.f32 1060320051#32 = (r : EReal) :=
  ⟨11744051 / 16777216, by norm_num, by simp [Ideal.ofBits, Ideal.ieee, -EReal.coe_mul]; norm_num⟩

/-! ## Real numbers among the extended ones -/

/-- `x` is a real number. -/
def IsReal (x : EReal) : Prop := ∃ r : ℝ, x = (r : EReal)

theorem isReal_coe (r : ℝ) : IsReal (r : EReal) := ⟨r, rfl⟩
theorem isReal_zero : IsReal 0 := ⟨0, by simp⟩
theorem isReal_one : IsReal 1 := ⟨1, by simp⟩

theorem IsReal.add {x y : EReal} (hx : IsReal x) (hy : IsReal y) : IsReal (x + y) := by
  obtain ⟨a, rfl⟩ := hx; obtain ⟨b, rfl⟩ := hy; exact ⟨a + b, by simp⟩

theorem IsReal.mul {x y : EReal} (hx : IsReal x) (hy : IsReal y) : IsReal (x * y) := by
  obtain ⟨a, rfl⟩ := hx; obtain ⟨b, rfl⟩ := hy; exact ⟨a * b, by simp⟩

theorem IsReal.ite {p : Prop} [Decidable p] {x y : EReal} (hx : IsReal x) (hy : IsReal y) : IsReal (if p then x else y) := by
  split <;> assumption

theorem IsReal.sum {ι : Type} (s : Finset ι) (f : ι → EReal) (h : ∀ i, IsReal (f i)) : IsReal (∑ i ∈ s, f i) := by
  classical
  induction s using Finset.induction_on with
  | empty => simpa using isReal_zero
  | insert a s ha ih => rw [Finset.sum_insert ha]; exact (h a).add ih

/-- A quotient of real numbers, the divisor not 0, is the real quotient. -/
theorem div_real (a : ℝ) {c : ℝ} (hc : c ≠ 0) : Ideal.div (a : EReal) (c : EReal) = ((a / c : ℝ) : EReal) := by
  rw [Ideal.div_coe hc, ← EReal.coe_mul, mul_one_div]

/-! ## The definitions -/

/-- How many tokens have token `t` for their parent. -/
def count (par : Fin 128 → BitVec 32) (t : Fin 128) : EReal := ∑ p : Fin 128, if par p = BitVec.ofNat 32 t.val then 1 else 0

/-- The weight that a table of six holds for an id; 0 where the id is none of 0 to 5. -/
def lookup (w : Fin 6 → EReal) (id : BitVec 32) : EReal :=
  if id = 0#32 then w 0 else if id = 1#32 then w 1 else if id = 2#32 then w 2 else if id = 3#32 then w 3
    else if id = 4#32 then w 4 else if id = 5#32 then w 5 else 0

/-- The six part-of-speech weights: 2.0, 1.5, 1.0, 0.8, 0.3, 0.5 as 32-bit floats. -/
def posTable : Fin 6 → EReal :=
  ![Ideal.ofBits .f32 1073741824#32, Ideal.ofBits .f32 1069547520#32, 1, Ideal.ofBits .f32 1061997773#32,
    Ideal.ofBits .f32 1050253722#32, Ideal.ofBits .f32 1056964608#32]

/-- The six relation weights: 2.0, 1.5, 1.5, 1.2, 1.0, 0.5 as 32-bit floats. -/
def depTable : Fin 6 → EReal :=
  ![Ideal.ofBits .f32 1073741824#32, Ideal.ofBits .f32 1069547520#32, Ideal.ofBits .f32 1069547520#32,
    Ideal.ofBits .f32 1067030938#32, 1, Ideal.ofBits .f32 1056964608#32]

/-- The part of a token's score that no span changes: 2.0 + 1.5·children + 0.8·part of speech + 0.5·relation. -/
def base (par pos dep : Fin 128 → BitVec 32) (t : Fin 128) : EReal :=
  Ideal.ofBits .f32 1073741824#32 + Ideal.ofBits .f32 1069547520#32 * count par t
    + Ideal.ofBits .f32 1061997773#32 * lookup posTable (pos t) + Ideal.ofBits .f32 1056964608#32 * lookup depTable (dep t)

/-- The part that falls with the distance from the span's centre: 1/2 / (1 + |t − (l + r)/2|). -/
def nearness (l r t : Fin 128) : ℝ := 1 / 2 / (1 + |(t.val : ℝ) - ((l.val : ℝ) + (r.val : ℝ)) / 2|)

/-- The score of token `t` in the span from `l` to `r`: 0 outside the span. -/
def score (par pos dep : Fin 128 → BitVec 32) (l r t : Fin 128) : EReal :=
  if l ≤ t ∧ t ≤ r then base par pos dep t + (nearness l r t : EReal) else 0

/-- The score over the temperature 0.7. -/
def logit (par pos dep : Fin 128 → BitVec 32) (l r t : Fin 128) : EReal :=
  Ideal.div (score par pos dep l r t) (Ideal.ofBits .f32 1060320051#32)

/-- The softmax of a row, its largest entry subtracted first. -/
def softmax (x : Fin 128 → EReal) (t : Fin 128) : EReal :=
  Ideal.div (Ideal.exp (x t - Finset.univ.fold max ⊥ x)) (∑ s : Fin 128, Ideal.exp (x s - Finset.univ.fold max ⊥ x))

/-- The probability of token `t` as head of the span from `l` to `r`. -/
def prob (par pos dep : Fin 128 → BitVec 32) (l r t : Fin 128) : EReal := softmax (logit par pos dep l r) t

/-- The token at place `k` when the probabilities are sorted downwards, ties by position. -/
def head (par pos dep : Fin 128 → BitVec 32) (l r k : Fin 128) : Fin 128 := order (prob par pos dep l r) k

/-! ## The three results -/

/-- The row of sentence `b` in an array of token words. -/
abbrev sentence (x : IVec ⟨2, ![4, 128]⟩ 32) (b : Fin 4) : Fin 128 → BitVec 32 := fun p => x (ix2 b p)

/-- The weighted embeddings: 0 where the span's ends are out of order. -/
def softHeads (x0 : IVec ⟨2, ![4, 128]⟩ 32) (x1 : FVec Ideal ⟨3, ![4, 128, 128]⟩ .f32) (x2 x3 : IVec ⟨2, ![4, 128]⟩ 32) (b : Fin 4) (l r d : Fin 128) :
    EReal :=
  if l ≤ r then ∑ t : Fin 128, prob (sentence x0 b) (sentence x2 b) (sentence x3 b) l r t * x1 (ix3 b d t) else 0

/-- The three largest probabilities: 0 where the span's ends are out of order. -/
def topWeights (x0 x2 x3 : IVec ⟨2, ![4, 128]⟩ 32) (b : Fin 4) (l r : Fin 128) (k : Fin 3) : EReal :=
  if l ≤ r then prob (sentence x0 b) (sentence x2 b) (sentence x3 b) l r
    (head (sentence x0 b) (sentence x2 b) (sentence x3 b) l r ⟨k.val, by omega⟩) else 0

/-- Their positions: −1 where the span's ends are out of order. -/
def topPlaces (x0 x2 x3 : IVec ⟨2, ![4, 128]⟩ 32) (b : Fin 4) (l r : Fin 128) (k : Fin 3) : BitVec 32 :=
  if l ≤ r then BitVec.ofNat 32 (head (sentence x0 b) (sentence x2 b) (sentence x3 b) l r ⟨k.val, by omega⟩).val
    else 4294967295#32

/-! ## Facts about them -/

theorem isReal_lookup (w : Fin 6 → EReal) (hw : ∀ k, IsReal (w k)) (id : BitVec 32) : IsReal (lookup w id) := by
  unfold lookup
  exact ((hw 0).ite ((hw 1).ite ((hw 2).ite ((hw 3).ite ((hw 4).ite ((hw 5).ite isReal_zero))))))

theorem isReal_w08 : IsReal (Ideal.ofBits .f32 1061997773#32) :=
  ⟨13421773 / 16777216, by simp [Ideal.ofBits, Ideal.ieee, -EReal.coe_mul]; norm_num⟩

theorem isReal_w03 : IsReal (Ideal.ofBits .f32 1050253722#32) :=
  ⟨10066330 / 33554432, by simp [Ideal.ofBits, Ideal.ieee, -EReal.coe_mul]; norm_num⟩

theorem isReal_w12 : IsReal (Ideal.ofBits .f32 1067030938#32) :=
  ⟨10066330 / 8388608, by simp [Ideal.ofBits, Ideal.ieee, -EReal.coe_mul]; norm_num⟩

theorem isReal_posTable (k : Fin 6) : IsReal (posTable k) := by
  fin_cases k
  · exact ⟨_, word_two⟩
  · exact ⟨_, word_degree⟩
  · exact isReal_one
  · exact isReal_w08
  · exact isReal_w03
  · exact ⟨_, word_half⟩

theorem isReal_depTable (k : Fin 6) : IsReal (depTable k) := by
  fin_cases k
  · exact ⟨_, word_two⟩
  · exact ⟨_, word_degree⟩
  · exact ⟨_, word_degree⟩
  · exact isReal_w12
  · exact isReal_one
  · exact ⟨_, word_half⟩

/-- Every token's fixed score is a real number. -/
theorem isReal_base (par pos dep : Fin 128 → BitVec 32) (t : Fin 128) : IsReal (base par pos dep t) := by
  unfold base
  refine IsReal.add (IsReal.add (IsReal.add ⟨_, word_two⟩ (IsReal.mul ⟨_, word_degree⟩ ?_))
    (isReal_w08.mul (isReal_lookup _ isReal_posTable _))) (IsReal.mul ⟨_, word_half⟩ (isReal_lookup _ isReal_depTable _))
  exact IsReal.sum _ _ fun p => isReal_one.ite isReal_zero

/-- Every score over the temperature is a real number. -/
theorem isReal_logit (par pos dep : Fin 128 → BitVec 32) (l r t : Fin 128) : IsReal (logit par pos dep l r t) := by
  have hs : IsReal (score par pos dep l r t) := by
    unfold score
    exact ((isReal_base par pos dep t).add (isReal_coe _)).ite isReal_zero
  obtain ⟨c, hc, e⟩ := word_temperature
  obtain ⟨a, ha⟩ := hs
  unfold logit
  rw [e, ha, div_real _ hc]
  exact isReal_coe _

/-- The running maximum of a row of real numbers is a real number. -/
theorem isReal_fold_max (x : Fin 128 → EReal) (hx : ∀ t, IsReal (x t)) : IsReal (Finset.univ.fold max ⊥ x) := by
  obtain ⟨t, -, ht⟩ := Finset.exists_max_image Finset.univ x ⟨0, Finset.mem_univ 0⟩
  rw [fold_max_eq x t fun s => ht s (Finset.mem_univ s)]
  exact hx t

/-- The exponential of a difference of real numbers is a positive real number. -/
theorem exp_sub_pos {x y : EReal} (hx : IsReal x) (hy : IsReal y) : 0 < Ideal.exp (x - y) := by
  obtain ⟨a, rfl⟩ := hx
  obtain ⟨b, rfl⟩ := hy
  rw [← EReal.coe_sub, Ideal.exp_coe]
  exact_mod_cast Real.exp_pos (a - b)

/-- A probability of a row of real numbers is not negative. -/
theorem softmax_nonneg (x : Fin 128 → EReal) (hx : ∀ t, IsReal (x t)) (t : Fin 128) : 0 ≤ softmax x t := by
  have hm := isReal_fold_max x hx
  have hp : ∀ s, 0 < Ideal.exp (x s - Finset.univ.fold max ⊥ x) := fun s => exp_sub_pos (hx s) hm
  have hS : 0 < ∑ s : Fin 128, Ideal.exp (x s - Finset.univ.fold max ⊥ x) :=
    lt_of_lt_of_le (hp 0) (Finset.single_le_sum (fun s _ => (hp s).le) (Finset.mem_univ 0))
  unfold softmax Ideal.div
  rw [if_neg hS.ne']
  exact mul_nonneg (hp t).le (EReal.inv_nonneg_of_nonneg hS.le)

/-- Every probability is above −1, the number the kernel overwrites with. -/
theorem prob_gt (par pos dep : Fin 128 → BitVec 32) (l r t : Fin 128) : ((-1 : ℝ) : EReal) < prob par pos dep l r t :=
  lt_of_lt_of_le (by exact_mod_cast (by norm_num : (-1 : ℝ) < 0)) (softmax_nonneg _ (isReal_logit par pos dep l r) t)

/-! ## The forms in which the two programs write them -/

/-- A small position, as a word turned into a float, is the number itself. -/
theorem sitofp_small (k : ℕ) (hk : k < 2 ^ 31) :
    (FloatOps.sitofp FTy.f32 (BitVec.ofNat 32 k) : Ideal .f32) = ((k : ℝ) : EReal) := by
  show (((BitVec.ofNat 32 k).toInt : ℝ) : EReal) = _
  rw [WordArith.toInt_ofNat_small k hk]
  norm_cast

/-- The order of positions, as the order of the extended real numbers. -/
theorem coe_le_iff (a b : Fin 128) : ((a.val : ℝ) : EReal) ≤ ((b.val : ℝ) : EReal) ↔ a ≤ b := by
  rw [EReal.coe_le_coe_iff, Nat.cast_le, Fin.le_def]

theorem absf_coe (r : ℝ) : (FloatOps.absf (φ := .f32) ((r : EReal) : Ideal .f32) : Ideal .f32) = ((|r| : ℝ) : EReal) := by
  show max (r : EReal) (-(r : EReal)) = _
  rw [← EReal.coe_neg, abs_eq_max_neg]
  exact (EReal.coe_strictMono.monotone.map_max).symm

/-- A choice by a condition's bit is the choice by the condition. -/
theorem select_valid {α : Type} (p : Prop) [Decidable p] (a b : α) :
    Scalar.select (if p then 1#1 else 0#1) a b = if p then a else b := by
  by_cases h : p <;> simp [Scalar.select, h]

/-- An index of four coordinates. -/
theorem eta4 {a b e f : ℕ} (y : (⟨4, ![a, b, e, f]⟩ : Shape).Idx) : y = ix4 (y 0) (y 1) (y 2) (y 3) := by
  funext k
  match k with
  | ⟨0, _⟩ => rfl
  | ⟨1, _⟩ => rfl
  | ⟨2, _⟩ => rfl
  | ⟨3, _⟩ => rfl

/-- The nearness with the centre as a product by one half and a single division, as the kernel has it. -/
theorem nearness_kernel (l r t : Fin 128) :
    Ideal.div (Ideal.ofBits .f32 1056964608#32)
      (1 + (FloatOps.absf (φ := .f32) (((t.val : ℝ) : EReal) - (((l.val : ℝ) : EReal) + ((r.val : ℝ) : EReal))
        * Ideal.ofBits .f32 1056964608#32 : Ideal .f32) : Ideal .f32)) = (nearness l r t : EReal) := by
  rw [word_half, ← EReal.coe_add, ← EReal.coe_mul, ← EReal.coe_sub, absf_coe, ← EReal.coe_one, ← EReal.coe_add,
    div_real _ (by positivity)]
  unfold nearness
  rw [mul_one_div]

/-- The nearness with a quotient by two and a reciprocal, as the reference has it. -/
theorem nearness_reference (l r t : Fin 128) :
    Ideal.ofBits .f32 1056964608#32 * Ideal.div 1
      (1 + (FloatOps.absf (φ := .f32) (((t.val : ℝ) : EReal) - Ideal.div (((l.val : ℝ) : EReal) + ((r.val : ℝ) : EReal))
        (Ideal.ofBits .f32 1073741824#32) : Ideal .f32) : Ideal .f32)) = (nearness l r t : EReal) := by
  rw [word_half, word_two, ← EReal.coe_add, div_real _ (by norm_num), ← EReal.coe_sub, absf_coe, ← EReal.coe_one,
    ← EReal.coe_add, div_real _ (by positivity), ← EReal.coe_mul]
  unfold nearness
  rw [mul_one_div]

end Cert.Spans

end
-- ==== Proof.KernelBlock.lean ====
/- What the kernel stores at one grid point, entry by entry, in terms of the sentence's rows. The point `(b, lb)` holds the
   eight left ends `l = 8·lb + s`. -/
module

public import proofs.«01_k».proof.Proof.Spec
public import proofs.«01_k».proof.Proof.Gen.KernelIdeal.Frame

@[expose] public section

set_option maxRecDepth 16384

noncomputable section

namespace Cert.Spans

open Idealize.ShloMosaic Cert.KernelIdeal Cert.KernelIdeal.Gen

/-! ## The token's fixed score -/

/-- Six choices added up are one lookup: at most one of them is not 0. -/
theorem sum_of_choices (a b c d e f : EReal) (id : BitVec 32) :
    Scalar.select (IntOp.cmpi .eq id 0#32) a 0 + Scalar.select (IntOp.cmpi .eq id 1#32) b 0
        + Scalar.select (IntOp.cmpi .eq id 2#32) c 0 + Scalar.select (IntOp.cmpi .eq id 3#32) d 0
        + Scalar.select (IntOp.cmpi .eq id 4#32) e 0 + Scalar.select (IntOp.cmpi .eq id 5#32) f 0
      = lookup ![a, b, c, d, e, f] id := by
  have hs : ∀ (k : BitVec 32) (x : EReal), Scalar.select (IntOp.cmpi .eq id k) x 0 = if id = k then x else 0 := fun k x => by
    by_cases h : id = k
    · simp [Scalar.select, IntOp.cmpi, h]
    · simp [Scalar.select, IntOp.cmpi, beq_false_of_ne h, h]
  simp only [hs, lookup]
  by_cases h0 : id = 0#32
  · simp [h0]
  by_cases h1 : id = 1#32
  · simp [h1]
  by_cases h2 : id = 2#32
  · simp [h2]
  by_cases h3 : id = 3#32
  · simp [h3]
  by_cases h4 : id = 4#32
  · simp [h4]
  by_cases h5 : id = 5#32
  · simp [h5]
  simp [h0, h1, h2, h3, h4, h5]

/-- An equality bit widened and turned into a float is 1 or 0. -/
theorem sitofp_eq_bit (x y : BitVec 32) :
    (FloatOps.sitofp FTy.f32 (BitVec.setWidth 32 (IntOp.cmpi .eq x y)) : Ideal .f32) = if x = y then (1 : EReal) else 0 := by
  show (((BitVec.setWidth 32 (IntOp.cmpi .eq x y)).toInt : ℝ) : EReal) = _
  by_cases h : x = y
  · simp [IntOp.cmpi, h]
  · simp [IntOp.cmpi, beq_false_of_ne h, h]

variable (i : grid0.Coords) (x0 x1 x2 : Vec Ideal S1x1x128 .i32) (x3 : Vec Ideal S1x128x128 .f32)

/-- The row of a block of token words. -/
abbrev row (x : Vec Ideal S1x1x128 .i32) : Fin 128 → BitVec 32 := fun p => x (ix3 0 0 p)

theorem pay36_eq (t : Fin 128) : k0_pay36 (F := Ideal) i x0 x1 x2 x3 (ix2 0 t) = base (row x0) (row x1) (row x2) t := by
  unfold_payloads
  pointwise []
  simp only [sitofp_eq_bit, sum_of_choices]
  rfl

/-! ## The span's ends -/

/-- The first left end of the point. -/
theorem toInt_muli (a : ℕ) (ha : a < 16) : (Scalar.muli (BitVec.ofNat 32 a) 8#32).toInt = 8 * (a : ℤ) := by
  interval_cases a <;> rfl

theorem left_eq (a : ℕ) (ha : a < 16) (s : Fin 8) (l : Fin 128) (hl : l.val = 8 * a + s.val) :
    (((Scalar.muli (BitVec.ofNat 32 a) 8#32).toInt : ℝ) : EReal) + (FloatOps.sitofp FTy.f32 (BitVec.ofNat 32 s.val) : Ideal .f32)
      = ((l.val : ℝ) : EReal) := by
  rw [toInt_muli a ha, sitofp_small _ (by omega), ← EReal.coe_add]
  have : (l.val : ℝ) = 8 * (a : ℝ) + s.val := by exact_mod_cast hl
  rw [this]
  push_cast
  rfl

variable (s : Fin 8) (l : Fin 128)

theorem pay17_eq (a : ℕ) (ha : a < 16) (hl : l.val = 8 * a + s.val) (r t : Fin 128) :
    k0_pay17 (F := Ideal) (BitVec.ofNat 32 a) (ix3 s r t) = if l ≤ t ∧ t ≤ r then 1#1 else 0#1 := by
  unfold_payloads
  pointwise []
  rw [left_eq a ha s l hl, sitofp_small _ (by omega), sitofp_small _ (by omega)]
  simp only [coe_le_iff]
  by_cases h1 : l ≤ t <;> by_cases h2 : t ≤ r <;> simp [h1, h2, IntOp.andi]

theorem pay18_eq (a : ℕ) (ha : a < 16) (hl : l.val = 8 * a + s.val) (r t : Fin 128) :
    k0_pay18 (F := Ideal) (BitVec.ofNat 32 a) (ix3 s r t)
      = 1 + (FloatOps.absf (φ := .f32) (((t.val : ℝ) : EReal) - (((l.val : ℝ) : EReal) + ((r.val : ℝ) : EReal))
        * Ideal.ofBits .f32 1056964608#32 : Ideal .f32) : Ideal .f32) := by
  unfold_payloads
  pointwise []
  rw [left_eq a ha s l hl, sitofp_small _ (by omega), sitofp_small _ (by omega)]

theorem pay22_eq (a : ℕ) (ha : a < 16) (hl : l.val = 8 * a + s.val) (r : Fin 128) :
    k0_pay22 (F := Ideal) (k0_pay14 (F := Ideal) (BitVec.ofNat 32 a)) (k0_pay15 (F := Ideal)) (ix2 s r)
      = if l ≤ r then 1#1 else 0#1 := by
  unfold_payloads
  pointwise []
  rw [left_eq a ha s l hl, sitofp_small _ (by omega)]
  simp only [coe_le_iff]
  by_cases h1 : l ≤ r <;> simp [h1]

/-! ## The probabilities -/

/-- The probabilities the kernel computes are the softmax of the scores over the temperature. -/
theorem pay42_eq (hl : l.val = 8 * (i 1).val + s.val) (r t : Fin 128) :
    k0_pay42 (F := Ideal) i x0 x1 x2 x3 (ix3 s r t) = prob (row x0) (row x1) (row x2) l r t := by
  have ha : (i 1).val < 16 := (i 1).isLt
  have hb := pay36_eq i x0 x1 x2 x3
  have h39 : ∀ t, k0_pay39 (F := Ideal) i x0 x1 x2 x3 (ix3 s r t) = _ := fun t => pay17_eq s l _ ha hl r t
  have h40 : ∀ t, k0_pay40 (F := Ideal) i x0 x1 x2 x3 (ix3 s r t) = _ := fun t => pay18_eq s l _ ha hl r t
  unfold k0_pay42
  generalize k0_pay36 (F := Ideal) i x0 x1 x2 x3 = v36 at *
  generalize k0_pay39 (F := Ideal) i x0 x1 x2 x3 = v39 at *
  generalize k0_pay40 (F := Ideal) i x0 x1 x2 x3 = v40 at *
  unfold_payloads
  pointwise []
  have hX : ∀ t, Ideal.div (Scalar.select (v39 (ix3 s r t))
      (v36 (ix2 0 t) + Ideal.div (Ideal.ofBits FTy.f32 1056964608#32) (v40 (ix3 s r t))) 0)
      (Ideal.ofBits FTy.f32 1060320051#32) = logit (row x0) (row x1) (row x2) l r t := fun t => by
    rw [hb, h39, h40, nearness_kernel]
    unfold logit score Scalar.select
    by_cases h : l ≤ t ∧ t ≤ r <;> simp [h]
  simp only [hX, word_negInf]
  rfl

/-! ## The three rounds -/

/-- The kernel's positions along the last axis. -/
abbrev positions : IVec S8x128x128 32 := iota .tc S8x128x128 32 [2] iota_S8x128x128_d2_w32

/-- A round's overwriting, read at one entry. -/
theorem pay28_apply (p : FVec Ideal S8x128x128 .f32) (q : IVec S8x128 32) (r t : Fin 128) :
    k0_pay28 (F := Ideal) p positions q (ix3 s r t)
      = Scalar.select (IntOp.cmpi .eq (BitVec.ofNat 32 t.val) (q (ix2 s r))) (Ideal.ofBits .f32 3212836864#32) (p (ix3 s r t)) := by
  unfold k0_pay28
  pointwise []

/-- Two small positions are equal as words exactly when they are equal. -/
theorem ofNat_eq_iff (a b : Fin 128) : BitVec.ofNat 32 a.val = BitVec.ofNat 32 b.val ↔ a = b := by
  constructor
  · intro h
    have := congrArg BitVec.toNat h
    simp only [BitVec.toNat_ofNat] at this
    omega
  · rintro rfl
    rfl

/-- Overwriting the place found in round `k` leaves the row that round `k + 1` looks at. -/
theorem overwrite (P : Fin 128 → EReal) (k k' : Fin 128) (hk : k'.val = k.val + 1) (t : Fin 128) :
    Scalar.select (IntOp.cmpi .eq (BitVec.ofNat 32 t.val) (BitVec.ofNat 32 (order P k).val)) (Ideal.ofBits .f32 3212836864#32)
      (masked P ((-1 : ℝ) : EReal) k t) = masked P ((-1 : ℝ) : EReal) k' t := by
  rw [← masked_succ P _ k k' hk, word_negOne]
  by_cases h : t = order P k
  · simp [Scalar.select, IntOp.cmpi, h]
  · have h' : ¬ BitVec.ofNat 32 t.val = BitVec.ofNat 32 (order P k).val := fun e => h ((ofNat_eq_iff _ _).1 e)
    simp [Scalar.select, IntOp.cmpi, beq_false_of_ne h', h]

/-- The largest entry of the row that round `k` looks at. -/
theorem round_max (P : Fin 128 → EReal) (hP : ∀ t, ((-1 : ℝ) : EReal) < P t) (k : Fin 128) :
    Finset.univ.fold max ⊥ (masked P ((-1 : ℝ) : EReal) k) = P (order P k) := by
  rw [fold_max_eq _ _ fun t => masked_le P _ hP k t, masked_order]

/-- The first position of that row which holds its largest entry. -/
theorem round_min (P : Fin 128 → EReal) (hP : ∀ t, ((-1 : ℝ) : EReal) < P t) (k : Fin 128) :
    Finset.univ.fold IntOp.minsi 2147483647#32
      (fun t : Fin 128 => if masked P ((-1 : ℝ) : EReal) k t = P (order P k) then BitVec.ofNat 32 t.val else 128#32)
      = BitVec.ofNat 32 (order P k).val :=
  fold_min_eq _ _ _ (masked_order P _ k) fun t h => masked_first P _ hP k t (by rw [h, masked_order])

section rounds

variable (P : Fin 128 → EReal) (hP : ∀ t, ((-1 : ℝ) : EReal) < P t) (r : Fin 128)
include hP

/-- Round 0: the largest probability. -/
theorem pay23_eq (v97 : FVec Ideal S1x128 .f32) (v112 : IVec S8x128x128 1) (v121 : FVec Ideal S8x128x128 .f32) (c : EReal)
    (h : ∀ t, k0_pay19 (F := Ideal) v97 v112 v121 c (ix3 s r t) = P t) :
    k0_pay23 (F := Ideal) v97 v112 v121 c (ix2 s r) = P (order P 0) := by
  unfold k0_pay23
  generalize k0_pay19 (F := Ideal) v97 v112 v121 c = w at *
  pointwise []
  rw [← round_max P hP 0, masked_zero]
  simp only [h, word_negInf]

/-- Round 0: its first position. -/
theorem pay24_eq (v97 : FVec Ideal S1x128 .f32) (v112 : IVec S8x128x128 1) (v121 : FVec Ideal S8x128x128 .f32) (c : EReal)
    (h : ∀ t, k0_pay19 (F := Ideal) v97 v112 v121 c (ix3 s r t) = P t) :
    k0_pay24 (F := Ideal) v97 v112 v121 c (ix2 s r) = BitVec.ofNat 32 (order P 0).val := by
  have hm := pay23_eq s P hP r v97 v112 v121 c h
  unfold k0_pay24
  generalize k0_pay23 (F := Ideal) v97 v112 v121 c = m at *
  generalize k0_pay19 (F := Ideal) v97 v112 v121 c = w at *
  pointwise []
  rw [← round_min P hP 0, masked_zero]
  simp only [h, hm]

/-- Round 1 looks at the row with round 0's place overwritten. -/
theorem pay28_eq (p : FVec Ideal S8x128x128 .f32) (q : IVec S8x128 32) (hp : ∀ t, p (ix3 s r t) = P t)
    (hq : q (ix2 s r) = BitVec.ofNat 32 (order P 0).val) (t : Fin 128) :
    k0_pay28 (F := Ideal) p positions q (ix3 s r t) = masked P ((-1 : ℝ) : EReal) 1 t := by
  rw [pay28_apply, hp, hq, ← overwrite P 0 1 rfl, masked_zero]

/-- Round 1: the largest probability left. -/
theorem pay29_eq (p : FVec Ideal S8x128x128 .f32) (q : IVec S8x128 32) (hp : ∀ t, p (ix3 s r t) = P t)
    (hq : q (ix2 s r) = BitVec.ofNat 32 (order P 0).val) :
    k0_pay29 (F := Ideal) p positions q (ix2 s r) = P (order P 1) := by
  have hw := pay28_eq s P hP r p q hp hq
  unfold k0_pay29
  generalize k0_pay28 (F := Ideal) p positions q = w at *
  pointwise []
  rw [← round_max P hP 1]
  simp only [hw, word_negInf]

/-- Round 1: its first position. -/
theorem pay30_eq (p : FVec Ideal S8x128x128 .f32) (q : IVec S8x128 32) (hp : ∀ t, p (ix3 s r t) = P t)
    (hq : q (ix2 s r) = BitVec.ofNat 32 (order P 0).val) :
    k0_pay30 (F := Ideal) p positions q (ix2 s r) = BitVec.ofNat 32 (order P 1).val := by
  have hw := pay28_eq s P hP r p q hp hq
  have hm := pay29_eq s P hP r p q hp hq
  unfold k0_pay30
  generalize k0_pay29 (F := Ideal) p positions q = m at *
  generalize k0_pay28 (F := Ideal) p positions q = w at *
  pointwise []
  rw [← round_min P hP 1]
  simp only [hw, hm]

/-- Round 1's place, repeated along the last axis. -/
theorem pay33_eq (p : FVec Ideal S8x128x128 .f32) (q : IVec S8x128 32) (hp : ∀ t, p (ix3 s r t) = P t)
    (hq : q (ix2 s r) = BitVec.ofNat 32 (order P 0).val) (t : Fin 128) :
    k0_pay33 (F := Ideal) p positions q (ix3 s r t) = BitVec.ofNat 32 (order P 1).val := by
  have hm := pay30_eq s P hP r p q hp hq
  unfold k0_pay33
  generalize k0_pay30 (F := Ideal) p positions q = m at *
  pointwise []
  exact hm

omit hP in
/-- Round 2 looks at the row with the first two places overwritten. -/
theorem pay1_eq (v177 : FVec Ideal S8x128x128 .f32) (v196 : IVec S8x128x128 32)
    (h177 : ∀ t, v177 (ix3 s r t) = masked P ((-1 : ℝ) : EReal) 1 t)
    (h196 : ∀ t, v196 (ix3 s r t) = BitVec.ofNat 32 (order P 1).val) (t : Fin 128) :
    k0_pay1 (F := Ideal) positions v177 v196 (ix3 s r t) = masked P ((-1 : ℝ) : EReal) 2 t := by
  unfold k0_pay1
  pointwise []
  rw [h177, h196]
  exact overwrite P 1 2 rfl t

/-- Round 2: the largest probability left. -/
theorem pay2_eq (v177 : FVec Ideal S8x128x128 .f32) (v196 : IVec S8x128x128 32)
    (h177 : ∀ t, v177 (ix3 s r t) = masked P ((-1 : ℝ) : EReal) 1 t)
    (h196 : ∀ t, v196 (ix3 s r t) = BitVec.ofNat 32 (order P 1).val) :
    k0_pay2 (F := Ideal) positions v177 v196 (ix2 s r) = P (order P 2) := by
  have hw := pay1_eq s P r v177 v196 h177 h196
  unfold k0_pay2
  generalize k0_pay1 (F := Ideal) positions v177 v196 = w at *
  pointwise []
  rw [← round_max P hP 2]
  simp only [hw, word_negInf]

/-- Round 2's store of the weights. -/
theorem pay3_eq (v155 : IVec S8x128 1) (v177 : FVec Ideal S8x128x128 .f32) (v196 : IVec S8x128x128 32)
    (h177 : ∀ t, v177 (ix3 s r t) = masked P ((-1 : ℝ) : EReal) 1 t)
    (h196 : ∀ t, v196 (ix3 s r t) = BitVec.ofNat 32 (order P 1).val) :
    k0_pay3 (F := Ideal) positions v155 v177 v196 (ix4 0 s 0 r) = Scalar.select (v155 (ix2 s r)) (P (order P 2)) 0 := by
  have hm := pay2_eq s P hP r v177 v196 h177 h196
  unfold k0_pay3
  generalize k0_pay2 (F := Ideal) positions v177 v196 = m at *
  pointwise []
  rw [hm]

/-- Round 2's store of the positions. -/
theorem pay4_eq (v155 : IVec S8x128 1) (v177 : FVec Ideal S8x128x128 .f32) (v196 : IVec S8x128x128 32)
    (h177 : ∀ t, v177 (ix3 s r t) = masked P ((-1 : ℝ) : EReal) 1 t)
    (h196 : ∀ t, v196 (ix3 s r t) = BitVec.ofNat 32 (order P 1).val) :
    k0_pay4 (F := Ideal) positions v155 v177 v196 (ix4 0 s 0 r)
      = Scalar.select (v155 (ix2 s r)) (BitVec.ofNat 32 (order P 2).val) 4294967295#32 := by
  have hw := pay1_eq s P r v177 v196 h177 h196
  have hm := pay2_eq s P hP r v177 v196 h177 h196
  unfold k0_pay4
  generalize k0_pay2 (F := Ideal) positions v177 v196 = m at *
  generalize k0_pay1 (F := Ideal) positions v177 v196 = w at *
  pointwise []
  rw [← round_min P hP 2]
  simp only [hw, hm]

/-- Round 1's store of the weights. -/
theorem pay31_eq (v155 : IVec S8x128 1) (p : FVec Ideal S8x128x128 .f32) (q : IVec S8x128 32) (hp : ∀ t, p (ix3 s r t) = P t)
    (hq : q (ix2 s r) = BitVec.ofNat 32 (order P 0).val) :
    k0_pay31 (F := Ideal) p positions v155 q (ix4 0 s 0 r) = Scalar.select (v155 (ix2 s r)) (P (order P 1)) 0 := by
  have hm := pay29_eq s P hP r p q hp hq
  unfold k0_pay31
  generalize k0_pay29 (F := Ideal) p positions q = m at *
  pointwise []
  rw [hm]

/-- Round 1's store of the positions. -/
theorem pay32_eq (v155 : IVec S8x128 1) (p : FVec Ideal S8x128x128 .f32) (q : IVec S8x128 32) (hp : ∀ t, p (ix3 s r t) = P t)
    (hq : q (ix2 s r) = BitVec.ofNat 32 (order P 0).val) :
    k0_pay32 (F := Ideal) p positions v155 q (ix4 0 s 0 r)
      = Scalar.select (v155 (ix2 s r)) (BitVec.ofNat 32 (order P 1).val) 4294967295#32 := by
  have hm := pay30_eq s P hP r p q hp hq
  unfold k0_pay32
  generalize k0_pay30 (F := Ideal) p positions q = m at *
  pointwise []
  rw [hm]

end rounds

/-- Round 0's store of the weights. -/
theorem pay26_eq (v155 : IVec S8x128 1) (m : FVec Ideal S8x128 .f32) (r : Fin 128) :
    k0_pay26 (F := Ideal) v155 m (k0_pay25 (F := Ideal)) (ix4 0 s 0 r) = Scalar.select (v155 (ix2 s r)) (m (ix2 s r)) 0 := by
  unfold_payloads
  pointwise []

/-- Round 0's store of the positions. -/
theorem pay27_eq (v155 : IVec S8x128 1) (q : IVec S8x128 32) (r : Fin 128) :
    k0_pay27 v155 q (ix4 0 s 0 r) = Scalar.select (v155 (ix2 s r)) (q (ix2 s r)) 4294967295#32 := by
  unfold_payloads
  pointwise []

/-- The kernel's store of the weighted embeddings. -/
theorem pay21_eq (hl : l.val = 8 * (i 1).val + s.val) (te : Vec Ideal S1x128x128 .f32) (r d : Fin 128) :
    k0_pay21 (F := Ideal) (k0_pay36 i x0 x1 x2 x3) (k0_pay37 i x0 x1 x2 x3) (k0_pay38 i x0 x1 x2 x3) (k0_pay39 i x0 x1 x2 x3)
        (k0_pay40 i x0 x1 x2 x3) (Scalar.ofBits .f32 0x3F000000#32) te (ix4 0 s r d)
      = if l ≤ r then ∑ t : Fin 128, prob (row x0) (row x1) (row x2) l r t * te (ix3 0 d t) else 0 := by
  have ha : (i 1).val < 16 := (i 1).isLt
  have hp := pay42_eq i x0 x1 x2 x3 s l hl r
  unfold k0_pay42 at hp
  unfold k0_pay21
  generalize k0_pay19 (F := Ideal) (k0_pay36 i x0 x1 x2 x3) _ _ _ = p at *
  unfold_payloads
  pointwise []
  rw [left_eq _ ha s l hl, sitofp_small _ (by omega)]
  simp only [coe_le_iff, hp]

end Cert.Spans

end
-- ==== Proof.KernelValue.lean ====
/- The kernel's three results as functions of its arguments: each output array from the blocks the grid's points store. -/
module

public import proofs.«01_k».proof.Proof.KernelBlock
public import Idealize.ShloMosaic.Lib.Pipeline.ValueKit

@[expose] public section

set_option maxRecDepth 16384

noncomputable section

namespace Cert.Spans

open Idealize.ShloMosaic Idealize.SL.Sem Cert.KernelIdeal Cert.KernelIdeal.Gen

section blocks

variable (i : grid0.Coords) (x0 x1 x2 : Vec Ideal S1x1x128 .i32) (x3 : Vec Ideal S1x128x128 .f32)
  (s : Fin 8) (l : Fin 128) (hl : l.val = 8 * (i 1).val + s.val) (r : Fin 128)
include hl

theorem out4_eq (d : Fin 128) : out0_4 (F := Ideal) i x0 x1 x2 x3 (ix4 0 s r d)
    = if l ≤ r then ∑ t : Fin 128, prob (row x0) (row x1) (row x2) l r t * x3 (ix3 0 d t) else 0 := by
  have h := pay21_eq i x0 x1 x2 x3 s l hl x3 r d
  unfold out0_4
  frame_out
  exact h

omit hl in
/-- A local index of a store of one place, from its coordinates. -/
theorem piece_index (x : S1x8x1x128.Idx) (h1 : s.val = (x 1).val) (h3 : r.val = (x 3).val) : x = ix4 0 s 0 r := by
  funext a
  match a with
  | ⟨0, _⟩ => exact Fin.ext (by have : (x 0).val < 1 := (x 0).isLt; show (x 0).val = 0; omega)
  | ⟨1, _⟩ => exact Fin.ext h1.symm
  | ⟨2, _⟩ => exact Fin.ext (by have : (x 2).val < 1 := (x 2).isLt; show (x 2).val = 0; omega)
  | ⟨3, _⟩ => exact Fin.ext h3.symm

theorem valid_eq : k0_pay43 (F := Ideal) i x0 x1 x2 x3 (ix2 s r) = if l ≤ r then 1#1 else 0#1 :=
  pay22_eq s l _ (i 1).isLt hl r

/-- The weights stored: the probability at place `k` of the sorted row. -/
theorem out5_eq (k : Fin 3) : out0_5 (F := Ideal) i x0 x1 x2 x3 (ix4 0 s k r)
    = if l ≤ r then prob (row x0) (row x1) (row x2) l r (head (row x0) (row x1) (row x2) l r ⟨k.val, by omega⟩) else 0 := by
  have hv := valid_eq i x0 x1 x2 x3 s l hl r
  have hP := prob_gt (row x0) (row x1) (row x2) l r
  have h42 := pay42_eq i x0 x1 x2 x3 s l hl r
  have h44 : k0_pay44 (F := Ideal) i x0 x1 x2 x3 (ix2 s r) = _ := pay24_eq s _ hP r _ _ _ _ h42
  have h23 := pay23_eq s _ hP r _ _ _ _ h42
  unfold out0_5
  canon_tiles x h
  case piece0 =>
    obtain rfl := piece_index s r x h1 h3
    obtain rfl : k = 2 := Fin.ext (by simpa using h2)
    refine (pay3_eq s _ hP r _ _ _ (pay28_eq s _ hP r _ _ h42 h44) (pay33_eq s _ hP r _ _ h42 h44)).trans ?_
    rw [hv, select_valid]
    rfl
  case piece1 =>
    obtain rfl := piece_index s r x h1 h3
    obtain rfl : k = 1 := Fin.ext (by simpa using h2)
    refine (pay31_eq s _ hP r _ _ _ h42 h44).trans ?_
    rw [hv, select_valid]
    rfl
  case piece2 =>
    obtain rfl := piece_index s r x h1 h3
    obtain rfl : k = 0 := Fin.ext (by simpa using h2)
    refine (pay26_eq s _ _ r).trans ?_
    rw [hv, h23, select_valid]
    rfl

/-- The positions stored: place `k` of the sorted row. -/
theorem out6_eq (k : Fin 3) : out0_6 (F := Ideal) i x0 x1 x2 x3 (ix4 0 s k r)
    = if l ≤ r then BitVec.ofNat 32 (head (row x0) (row x1) (row x2) l r ⟨k.val, by omega⟩).val else 4294967295#32 := by
  have hv := valid_eq i x0 x1 x2 x3 s l hl r
  have hP := prob_gt (row x0) (row x1) (row x2) l r
  have h42 := pay42_eq i x0 x1 x2 x3 s l hl r
  have h44 : k0_pay44 (F := Ideal) i x0 x1 x2 x3 (ix2 s r) = _ := pay24_eq s _ hP r _ _ _ _ h42
  unfold out0_6
  canon_tiles x h
  case piece0 =>
    obtain rfl := piece_index s r x h1 h3
    obtain rfl : k = 2 := Fin.ext (by simpa using h2)
    refine (pay4_eq s _ hP r _ _ _ (pay28_eq s _ hP r _ _ h42 h44) (pay33_eq s _ hP r _ _ h42 h44)).trans ?_
    rw [hv, select_valid]
    rfl
  case piece1 =>
    obtain rfl := piece_index s r x h1 h3
    obtain rfl : k = 1 := Fin.ext (by simpa using h2)
    refine (pay32_eq s _ hP r _ _ _ h42 h44).trans ?_
    rw [hv, select_valid]
    rfl
  case piece2 =>
    obtain rfl := piece_index s r x h1 h3
    obtain rfl : k = 0 := Fin.ext (by simpa using h2)
    refine (pay27_eq s _ _ r).trans ?_
    rw [hv, h44, select_valid]
    rfl

end blocks

/-! ## The arrays -/

variable (m : (ℓ : Loc nD τ sig) → Buf (Elt Ideal) ℓ) (c : Dev nD)

/-- The arguments on core `c`. -/
abbrev arg0 : IVec S4x128 32 := m ((c.tc : Thread nD τ).loc main_arg0)
abbrev arg1 : FVec Ideal S4x128x128 .f32 := m ((c.tc : Thread nD τ).loc main_arg1)
abbrev arg2 : IVec S4x128 32 := m ((c.tc : Thread nD τ).loc main_arg2)
abbrev arg3 : IVec S4x128 32 := m ((c.tc : Thread nD τ).loc main_arg3)

/-- What the reshapes before the grid leave, at an index. -/
theorem V_parents (b : Fin 4) (p : Fin 128) : (V m c main_v0 : IVec S4x1x128 32) (ix3 b 0 p) = arg0 m c (ix2 b p) := by
  have : V m c main_v0 = shapeCast S4x1x128 (arg0 m c) shapeCasts_S4x128_S4x1x128 := by
    simp only [V, V0, List.flatten_cons, List.flatten_nil, List.append_nil]
    after_results_simp
    rfl
  rw [this]
  pointwise []

theorem V_pos (b : Fin 4) (p : Fin 128) : (V m c main_v1 : IVec S4x1x128 32) (ix3 b 0 p) = arg2 m c (ix2 b p) := by
  have : V m c main_v1 = shapeCast S4x1x128 (arg2 m c) shapeCasts_S4x128_S4x1x128 := by
    simp only [V, V0, List.flatten_cons, List.flatten_nil, List.append_nil]
    after_results_simp
    rfl
  rw [this]
  pointwise []

theorem V_deprel (b : Fin 4) (p : Fin 128) : (V m c main_v2 : IVec S4x1x128 32) (ix3 b 0 p) = arg3 m c (ix2 b p) := by
  have : V m c main_v2 = shapeCast S4x1x128 (arg3 m c) shapeCasts_S4x128_S4x1x128 := by
    simp only [V, V0, List.flatten_cons, List.flatten_nil, List.append_nil]
    after_results_simp
    rfl
  rw [this]
  pointwise []

/-- The sentence a point works on. -/
abbrev sent (t : Fin cfg0.N) : Fin 4 := (grid0.coords t) 0

theorem index0 : ∀ t : Fin grid0.N, win0_0.index t = ![((grid0.coords t) 0).val, 0, 0] := by decide +kernel
theorem index1 : ∀ t : Fin grid0.N, win0_1.index t = ![((grid0.coords t) 0).val, 0, 0] := by decide +kernel
theorem index2 : ∀ t : Fin grid0.N, win0_2.index t = ![((grid0.coords t) 0).val, 0, 0] := by decide +kernel
theorem index3 : ∀ t : Fin grid0.N, win0_3.index t = ![((grid0.coords t) 0).val, 0, 0] := by decide +kernel
theorem index4 : ∀ t : Fin grid0.N, win0_4.index t = ![((grid0.coords t) 0).val, ((grid0.coords t) 1).val, 0, 0] := by
  decide +kernel
theorem index5 : ∀ t : Fin grid0.N, win0_5.index t = ![((grid0.coords t) 0).val, ((grid0.coords t) 1).val, 0, 0] := by
  decide +kernel
theorem index6 : ∀ t : Fin grid0.N, win0_6.index t = ![((grid0.coords t) 0).val, ((grid0.coords t) 1).val, 0, 0] := by
  decide +kernel

/-- The rows a point reads are its sentence's. -/
theorem row_parents (t : Fin cfg0.N) : row (iblk m c 0 t) = sentence (arg0 m c) (sent t) := by
  funext p
  refine Eq.trans ?_ (V_parents m c (sent t) p)
  show iblk m c 0 t (ix3 0 0 p) = _
  blk_simp [iblk]
  congr 1
  blk_ext [index0 t, sent]

theorem row_pos (t : Fin cfg0.N) : row (iblk m c 1 t) = sentence (arg2 m c) (sent t) := by
  funext p
  refine Eq.trans ?_ (V_pos m c (sent t) p)
  show iblk m c 1 t (ix3 0 0 p) = _
  blk_simp [iblk]
  congr 1
  blk_ext [index1 t, sent]

theorem row_deprel (t : Fin cfg0.N) : row (iblk m c 2 t) = sentence (arg3 m c) (sent t) := by
  funext p
  refine Eq.trans ?_ (V_deprel m c (sent t) p)
  show iblk m c 2 t (ix3 0 0 p) = _
  blk_simp [iblk]
  congr 1
  blk_ext [index2 t, sent]

theorem block_embeds (t : Fin cfg0.N) (d p : Fin 128) :
    (iblk m c 3 t : Vec Ideal S1x128x128 .f32) (ix3 0 d p) = arg1 m c (ix3 (sent t) d p) := by
  show _ = m ((c.tc : Thread nD τ).loc main_arg1) (ix3 (sent t) d p)
  rw [← V_main_arg1 m c]
  blk_simp [iblk]
  congr 1
  blk_ext [index3 t, sent]

/-- An index of an output block, from its coordinates. -/
theorem eta_block {n k : ℕ} (y : (⟨4, ![1, 8, n, k]⟩ : Shape).Idx) : y = ix4 0 (y 1) (y 2) (y 3) := by
  funext a
  match a with
  | ⟨0, _⟩ => exact Fin.ext (by have : (y 0).val < 1 := (y 0).isLt; show (y 0).val = 0; omega)
  | ⟨1, _⟩ => rfl
  | ⟨2, _⟩ => rfl
  | ⟨3, _⟩ => rfl

/-- The left end in row `s` of the point's block. -/
def left (t : Fin cfg0.N) (s : Fin 8) : Fin 128 :=
  ⟨8 * ((grid0.coords t) 1).val + s.val, by have : ((grid0.coords t) 1).val < 16 := ((grid0.coords t) 1).isLt; omega⟩

/-- What a point stores of the weighted embeddings. -/
theorem point4 (t : Fin cfg0.N) (s : Fin 8) (r d : Fin 128) :
    out0_4 (F := Ideal) (grid0.coords t) (iblk m c 0 t) (iblk m c 1 t) (iblk m c 2 t) (iblk m c 3 t) (ix4 0 s r d)
      = softHeads (arg0 m c) (arg1 m c) (arg2 m c) (arg3 m c) (sent t) (left t s) r d := by
  refine (out4_eq (grid0.coords t) (iblk m c 0 t) (iblk m c 1 t) (iblk m c 2 t) (iblk m c 3 t) s (left t s) rfl r d).trans ?_
  rw [row_parents, row_pos, row_deprel]
  simp only [block_embeds]
  rfl

/-- What a point stores of the weights. -/
theorem point5 (t : Fin cfg0.N) (s : Fin 8) (k : Fin 3) (r : Fin 128) :
    out0_5 (F := Ideal) (grid0.coords t) (iblk m c 0 t) (iblk m c 1 t) (iblk m c 2 t) (iblk m c 3 t) (ix4 0 s k r)
      = topWeights (arg0 m c) (arg2 m c) (arg3 m c) (sent t) (left t s) r k := by
  refine (out5_eq (grid0.coords t) (iblk m c 0 t) (iblk m c 1 t) (iblk m c 2 t) (iblk m c 3 t) s (left t s) rfl r k).trans ?_
  rw [row_parents, row_pos, row_deprel]
  rfl

/-- What a point stores of the positions. -/
theorem point6 (t : Fin cfg0.N) (s : Fin 8) (k : Fin 3) (r : Fin 128) :
    out0_6 (F := Ideal) (grid0.coords t) (iblk m c 0 t) (iblk m c 1 t) (iblk m c 2 t) (iblk m c 3 t) (ix4 0 s k r)
      = topPlaces (arg0 m c) (arg2 m c) (arg3 m c) (sent t) (left t s) r k := by
  refine (out6_eq (grid0.coords t) (iblk m c 0 t) (iblk m c 1 t) (iblk m c 2 t) (iblk m c 3 t) s (left t s) rfl r k).trans ?_
  rw [row_parents, row_pos, row_deprel]
  rfl

/-- The weighted embeddings the kernel leaves. -/
theorem array4 : (dats m 0 c).arrAt 4 cfg0.N
    = fun j : S4x128x128x128.Idx => softHeads (arg0 m c) (arg1 m c) (arg2 m c) (arg3 m c) (j 0) (j 1) (j 2) (j 3) := by
  refine (dats m 0 c).arrAt_eq_of_covers 4 _ (by decide +kernel) fun t hf y => ?_
  blk_simp
  rw [after0_4]
  have e0 : (win0_4.blk t).view.emb y 0 = sent t := Fin.ext (by
    have : (y 0).val < 1 := (y 0).isLt
    blk_simp [index4 t])
  have e1 : (win0_4.blk t).view.emb y 1 = left t (y 1) := Fin.ext (by
    blk_simp [index4 t]
    show ((grid0.coords t) 1).val * 8 + (y 1).val = 8 * ((grid0.coords t) 1).val + (y 1).val
    omega)
  have e2 : (win0_4.blk t).view.emb y 2 = y 2 := Fin.ext (by blk_simp [index4 t])
  have e3 : (win0_4.blk t).view.emb y 3 = y 3 := Fin.ext (by blk_simp [index4 t])
  rw [e0, e1, e2, e3]
  exact (congrArg _ (eta_block (n := 128) (k := 128) y)).trans (point4 m c t (y 1) (y 2) (y 3))

/-- The weights the grid leaves, the place before the right end. -/
theorem array5 : (dats m 0 c).arrAt 5 cfg0.N
    = fun j : S4x128x3x128.Idx => topWeights (arg0 m c) (arg2 m c) (arg3 m c) (j 0) (j 1) (j 3) (j 2) := by
  refine (dats m 0 c).arrAt_eq_of_covers 5 _ (by decide +kernel) fun t hf y => ?_
  blk_simp
  rw [after0_5]
  have e0 : (win0_5.blk t).view.emb y 0 = sent t := Fin.ext (by
    have : (y 0).val < 1 := (y 0).isLt
    blk_simp [index5 t])
  have e1 : (win0_5.blk t).view.emb y 1 = left t (y 1) := Fin.ext (by
    blk_simp [index5 t]
    show ((grid0.coords t) 1).val * 8 + (y 1).val = 8 * ((grid0.coords t) 1).val + (y 1).val
    omega)
  have e2 : (win0_5.blk t).view.emb y 2 = y 2 := Fin.ext (by blk_simp [index5 t])
  have e3 : (win0_5.blk t).view.emb y 3 = y 3 := Fin.ext (by blk_simp [index5 t])
  rw [e0, e1, e2, e3]
  exact (congrArg _ (eta_block (n := 3) (k := 128) y)).trans (point5 m c t (y 1) (y 2) (y 3))

/-- The positions the grid leaves, the place before the right end. -/
theorem array6 : (dats m 0 c).arrAt 6 cfg0.N
    = fun j : S4x128x3x128.Idx => topPlaces (arg0 m c) (arg2 m c) (arg3 m c) (j 0) (j 1) (j 3) (j 2) := by
  refine (dats m 0 c).arrAt_eq_of_covers 6 _ (by decide +kernel) fun t hf y => ?_
  blk_simp
  rw [after0_6]
  have e0 : (win0_6.blk t).view.emb y 0 = sent t := Fin.ext (by
    have : (y 0).val < 1 := (y 0).isLt
    blk_simp [index6 t])
  have e1 : (win0_6.blk t).view.emb y 1 = left t (y 1) := Fin.ext (by
    blk_simp [index6 t]
    show ((grid0.coords t) 1).val * 8 + (y 1).val = 8 * ((grid0.coords t) 1).val + (y 1).val
    omega)
  have e2 : (win0_6.blk t).view.emb y 2 = y 2 := Fin.ext (by blk_simp [index6 t])
  have e3 : (win0_6.blk t).view.emb y 3 = y 3 := Fin.ext (by blk_simp [index6 t])
  rw [e0, e1, e2, e3]
  exact (congrArg _ (eta_block (n := 3) (k := 128) y)).trans (point6 m c t (y 1) (y 2) (y 3))

/-! ## After the grid: the last two axes swapped -/

/-- The weights returned. -/
theorem result4 : (Pipeline.afterTail₀ cfgs (dats m) 0 (V0 m) [hostOps1] c main_v4 : FVec Ideal S4x128x128x3 .f32)
    = fun j => topWeights (arg0 m c) (arg2 m c) (arg3 m c) (j 0) (j 1) (j 2) (j 3) := by
  have : Pipeline.afterTail₀ cfgs (dats m) 0 (V0 m) [hostOps1] c main_v4
      = transpose S4x128x128x3 [0, 1, 3, 2] ((dats m 0 c).arrAt 5 cfg0.N : FVec Ideal S4x128x3x128 .f32)
        transposes_S4x128x3x128_S4x128x128x3_0_1_3_2 := by
    simp only [Pipeline.afterTail₀, List.flatten_cons, List.flatten_nil, List.append_nil]
    after_results_simp
    exact congrArg (fun x : FVec Ideal S4x128x3x128 .f32 => transpose S4x128x128x3 [0, 1, 3, 2] x
      transposes_S4x128x3x128_S4x128x128x3_0_1_3_2) (Pipeline.withArrays_arr (cfgs 0).spec launch0.win.arr_inj _ _ _ 5)
  rw [this, array5]
  funext j
  obtain ⟨b, l, r, k, rfl⟩ : ∃ b l r k, j = ix4 b l r k := ⟨j 0, j 1, j 2, j 3, eta4 j⟩
  pointwise []

/-- The positions returned. -/
theorem result5 : (Pipeline.afterTail₀ cfgs (dats m) 0 (V0 m) [hostOps1] c main_v5 : IVec S4x128x128x3 32)
    = fun j => topPlaces (arg0 m c) (arg2 m c) (arg3 m c) (j 0) (j 1) (j 2) (j 3) := by
  have : Pipeline.afterTail₀ cfgs (dats m) 0 (V0 m) [hostOps1] c main_v5
      = transpose S4x128x128x3 [0, 1, 3, 2] ((dats m 0 c).arrAt 6 cfg0.N : IVec S4x128x3x128 32)
        transposes_S4x128x3x128_S4x128x128x3_0_1_3_2 := by
    simp only [Pipeline.afterTail₀, List.flatten_cons, List.flatten_nil, List.append_nil]
    after_results_simp
    exact congrArg (fun x : IVec S4x128x3x128 32 => transpose S4x128x128x3 [0, 1, 3, 2] x
      transposes_S4x128x3x128_S4x128x128x3_0_1_3_2) (Pipeline.withArrays_arr (cfgs 0).spec launch0.win.arr_inj _ _ _ 6)
  rw [this, array6]
  funext j
  obtain ⟨b, l, r, k, rfl⟩ : ∃ b l r k, j = ix4 b l r k := ⟨j 0, j 1, j 2, j 3, eta4 j⟩
  pointwise []

/-- The kernel runs to its end with the three results as stated and its arguments as they were. -/
theorem kernel_run (ρ : Dev nD → PrngReg) :
    θ_run defs (onTc (τ := τ) (main (F := Ideal))) ⟨m, fun _ => 0, ρ⟩ (fun r => ∀ c : Dev nD,
      r.2.mem ((c.tc : Thread nD τ).loc main_v3_0)
        = (fun j : S4x128x128x128.Idx => softHeads (arg0 m c) (arg1 m c) (arg2 m c) (arg3 m c) (j 0) (j 1) (j 2) (j 3))
      ∧ r.2.mem ((c.tc : Thread nD τ).loc main_v4)
        = (fun j : S4x128x128x3.Idx => topWeights (arg0 m c) (arg2 m c) (arg3 m c) (j 0) (j 1) (j 2) (j 3))
      ∧ r.2.mem ((c.tc : Thread nD τ).loc main_v5)
        = (fun j : S4x128x128x3.Idx => topPlaces (arg0 m c) (arg2 m c) (arg3 m c) (j 0) (j 1) (j 2) (j 3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 4).trans (array4 m c),
      ((h c).2 main_v4 (Pipeline.mem_restRefs_of main_v4 (by decide) (by decide))).trans (result4 m c),
      ((h c).2 main_v5 (Pipeline.mem_restRefs_of main_v5 (by decide) (by decide))).trans (result5 m c),
      ((h c).2 main_arg0 (Pipeline.mem_restRefs_of main_arg0 (by decide) (by decide))).trans (W_main_arg0 m (dats m) c),
      ((h c).1 3).trans (((dats m 0 c).arrAt_in 3 rfl _).trans ((A_eq m c 3).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.Spans

end
-- ==== Proof.RefScore.lean ====
/- The reference's token scores: the scatter-add of ones counts each token's children, the two table lookups read the
   weight of an id from 0 to 5, and their weighted sum is the part of the score that no span changes. -/
module

public import proofs.«01_k».proof.Proof.Gen.ReferenceIdeal.Read
public import proofs.«01_k».proof.Proof.Spec
public import Idealize.ShloMosaic.Lib.Routing.OpsPair
public import Idealize.ShloMosaic.Lib.ValueIdxCore
public import Idealize.ShloMosaic.Lib.ReduceAll
public import Idealize.ShloMosaic.Lib.Pointwise

@[expose] public section

set_option maxRecDepth 16384

noncomputable section

namespace Cert.Spans

open Idealize.ShloMosaic Cert.ReferenceIdeal Cert.ReferenceIdeal.Gen Cert.ReferenceIdeal.Read

variable (x0 x2 x3 : (⟨S4x128, .i32⟩ : BufTy).Contents (Elt Ideal))

/-! ## The number of children -/

theorem pair_row (b : Fin 4) (p : Fin 128) : (val_main_v31 (F := Ideal) x0 (ix3 b p 0)).toInt = b.val := by
  have e : val_main_v31 (F := Ideal) x0 (ix3 b p 0) = Scalar.select (IntOp.cmpi .slt (BitVec.ofNat 32 b.val) 0#32) (IntOp.addi (BitVec.ofNat 32 b.val) 4#32) (BitVec.ofNat 32 b.val) := by
    pointwise [val_main_v31, val_main_v30, val_main_v29, val_main_v28, val_main_v27, val_main_v26, val_main_v25, val_main_v24, val_main_v23, val_main_v22, val_main_v21, val_main_v20, val_main_v19, val_main_v17, val_main_v16, val_main_v15, val_main_c, val_main_c_12, val_main_c_13, val_main_c_14]
  rw [e]
  clear e
  revert b; decide

theorem pair_parent (h : ∀ j, 0 ≤ (x0 j).toInt) (b : Fin 4) (p : Fin 128) :
    val_main_v31 (F := Ideal) x0 (ix3 b p 1) = x0 (ix2 b p) := by
  have e : val_main_v31 (F := Ideal) x0 (ix3 b p 1) = Scalar.select (IntOp.cmpi .slt (x0 (ix2 b p)) 0#32) (IntOp.addi (x0 (ix2 b p)) 128#32) (x0 (ix2 b p)) := by
    pointwise [val_main_v31, val_main_v30, val_main_v29, val_main_v28, val_main_v27, val_main_v26, val_main_v25, val_main_v24, val_main_v23, val_main_v22, val_main_v21, val_main_v20, val_main_v19, val_main_v17, val_main_v16, val_main_v15, val_main_c, val_main_c_12, val_main_c_13, val_main_c_14]
  rw [e]
  have := h (ix2 b p)
  have hn : IntOp.cmpi .slt (x0 (ix2 b p)) 0#32 = 0#1 := by
    simp only [IntOp.cmpi, BitVec.slt, BitVec.toInt_zero]
    rw [decide_eq_false (by omega)]; rfl
  rw [hn]; rfl

theorem parent_iff (w : BitVec 32) (t : Fin 128) : w.toInt = (t.val : ℤ) ↔ w = BitVec.ofNat 32 t.val := by
  have ht := t.isLt
  have e : (BitVec.ofNat 32 t.val).toInt = (t.val : ℤ) := by
    rw [BitVec.toInt_ofNat']; simp [Int.bmod]; omega
  rw [← e]; exact BitVec.toInt_inj

/-- The scatter-add of ones at the parents counts the children. -/
theorem children (h : ∀ j, 0 ≤ (x0 j).toInt) (b : Fin 4) (t : Fin 128) :
    val_main_v33 (F := Ideal) x0 (ix2 b t) = count (sentence x0 b) t := by
  have lands (a : Fin 4) (p : Fin 128) :
      (scatter_S4x128_S4x128x2_S4x128_n_01_01_2.resultIdx? (ix2 a p) (val_main_v31 (F := Ideal) x0) = some (ix2 b t)) ↔
        a = b ∧ x0 (ix2 a p) = BitVec.ofNat 32 t.val := by
    have := Routing.scatter_lands2 scatter_S4x128_S4x128x2_S4x128_n_01_01_2 rfl rfl rfl (val_main_v31 (F := Ideal) x0) a p b t
    rw [← ix2_eq_valueIdx, ← ix2_eq_valueIdx, ← ix3_eq_valueIdx, ← ix3_eq_valueIdx] at this
    rw [this, pair_row, pair_parent x0 h, parent_iff]
    refine and_congr_left fun _ => ⟨fun e => Fin.ext (by omega), fun e => by rw [e]⟩
  have zero : val_main_v18 (F := Ideal) (ix2 b t) = 0 := by
    pointwise [val_main_v18, val_main_cst_11]
  have one (j : S4x128.Idx) : val_main_v32 (F := Ideal) j = 1 := by
    rw [eq_ix2 j]; pointwise [val_main_v32, val_main_cst_15]
  show val_main_v18 (F := Ideal) (ix2 b t) + _ = _
  rw [zero, zero_add, Finset.sum_filter, ValueIdx.sum_idx2]
  simp only [← ix2_eq_valueIdx, one, lands]
  rw [Finset.sum_eq_single b]
  · simp [count]
  · intro a _ ne; simp [ne]
  · simp

/-! ## The two lookups -/

theorem six (w : BitVec 32) (h : 0 ≤ w.toInt ∧ w.toInt < 6) :
    w = 0#32 ∨ w = 1#32 ∨ w = 2#32 ∨ w = 3#32 ∨ w = 4#32 ∨ w = 5#32 := by
  simp only [← BitVec.toInt_inj]
  simp
  omega

theorem posTable_reads (k : Fin 6) : val_main_v6 (F := Ideal) (ix1 k) = posTable k := by
  fin_cases k <;> pointwise [val_main_v6, val_main_v5, val_main_v4, val_main_v3, val_main_v2, val_main_v1, val_main_v0, val_main_cst, val_main_cst_0, val_main_cst_1, val_main_cst_2, val_main_cst_3, val_main_cst_4] <;> rfl

theorem depTable_reads (k : Fin 6) : val_main_v13 (F := Ideal) (ix1 k) = depTable k := by
  fin_cases k <;> pointwise [val_main_v13, val_main_v12, val_main_v11, val_main_v10, val_main_v9, val_main_v8, val_main_v7, val_main_cst_5, val_main_cst_6, val_main_cst_7, val_main_cst_8, val_main_cst_9, val_main_cst_10] <;> rfl

theorem idWord (w : BitVec 32) (h : 0 ≤ w.toInt ∧ w.toInt < 6) :
    Scalar.select (IntOp.cmpi .slt w 0#32) (IntOp.addi w 6#32) w = w ∧ IntOp.andi (IntOp.cmpi .sge w 0#32) (IntOp.cmpi .sle w 5#32) = 1#1 := by
  rcases six w h with rfl | rfl | rfl | rfl | rfl | rfl <;> decide

theorem lookup_reads (f : Fin 6 → EReal) (w : BitVec 32) (h : 0 ≤ w.toInt ∧ w.toInt < 6) (hk : min w.toInt.toNat (6 - 1) < 6) :
    f ⟨min w.toInt.toNat (6 - 1), hk⟩ = lookup f w := by
  rcases six w h with rfl | rfl | rfl | rfl | rfl | rfl <;> simp [lookup] <;> rfl

theorem pos_id (b : Fin 4) (t : Fin 128) (h : 0 ≤ (x2 (ix2 b t)).toInt ∧ (x2 (ix2 b t)).toInt < 6) :
    val_main_call0_v5 (F := Ideal) x2 (ix3 b t 0) = x2 (ix2 b t) := by
  have e : val_main_call0_v5 (F := Ideal) x2 (ix3 b t 0) = Scalar.select (IntOp.cmpi .slt (x2 (ix2 b t)) 0#32) (IntOp.addi (x2 (ix2 b t)) 6#32) (x2 (ix2 b t)) := by
    pointwise [val_main_call0_v5, val_main_call0_v4, val_main_call0_v3, val_main_call0_v2, val_main_call0_v1, val_main_call0_v0, val_main_call0_c, val_main_call0_c_0]
  rw [e, (idWord _ h).1]

theorem dep_id (b : Fin 4) (t : Fin 128) (h : 0 ≤ (x3 (ix2 b t)).toInt ∧ (x3 (ix2 b t)).toInt < 6) :
    val_main_call1_v5 (F := Ideal) x3 (ix3 b t 0) = x3 (ix2 b t) := by
  have e : val_main_call1_v5 (F := Ideal) x3 (ix3 b t 0) = Scalar.select (IntOp.cmpi .slt (x3 (ix2 b t)) 0#32) (IntOp.addi (x3 (ix2 b t)) 6#32) (x3 (ix2 b t)) := by
    pointwise [val_main_call1_v5, val_main_call1_v4, val_main_call1_v3, val_main_call1_v2, val_main_call1_v1, val_main_call1_v0, val_main_call1_c, val_main_call1_c_0]
  rw [e, (idWord _ h).1]

theorem pos_weight (h : ∀ j, 0 ≤ (x2 j).toInt ∧ (x2 j).toInt < 6) (b : Fin 4) (t : Fin 128) :
    val_main_v34 (F := Ideal) x2 (ix2 b t) = lookup posTable (x2 (ix2 b t)) := by
  have inside : val_main_call0_v12 (F := Ideal) x2 (ix2 b t) = 1#1 := by
    refine Host.reduce_andi_one _ _ _ _ _ rfl fun i => ?_
    obtain ⟨a, p, rfl⟩ : ∃ a p, i = ix3 a p 0 := ⟨i 0, i 1, by
      rw [eq_ix3 i]; congr 1; exact Subsingleton.elim (α := Fin 1) _ _⟩
    have e : val_main_call0_v11 (F := Ideal) x2 (ix3 a p 0) = IntOp.andi (IntOp.cmpi .sge (val_main_call0_v5 (F := Ideal) x2 (ix3 a p 0)) 0#32)
        (IntOp.cmpi .sle (val_main_call0_v5 (F := Ideal) x2 (ix3 a p 0)) 5#32) := rfl
    rw [e, pos_id x2 a p (h _)]
    exact (idWord _ (h _)).2
  have read : val_main_call0_v13 (F := Ideal) x2 (ix2 b t) = lookup posTable (x2 (ix2 b t)) := by
    have := ValueIdx.gather_take_apply (by decide) gather_S6_S4x128x1_S4x128_n_0_n_n_0_2_1_wf (val_main_v6 (F := Ideal)) (val_main_call0_v5 (F := Ideal) x2) (ix2 b t)
    refine this.trans ?_
    have e : ValueIdx.takeIdx (ix2 b t) = ix3 b t 0 := by
      funext a; match a with | ⟨0, _⟩ => rfl | ⟨1, _⟩ => rfl | ⟨2, _⟩ => rfl
    rw [← ix1_eq_valueIdx, posTable_reads]
    simp only [e, pos_id x2 b t (h _)]
    exact lookup_reads _ _ (h _) _
  show Scalar.select (val_main_call0_v12 (F := Ideal) x2 (ix2 b t)) (val_main_call0_v13 (F := Ideal) x2 (ix2 b t)) _ = _
  rw [inside, read]; rfl

theorem dep_weight (h : ∀ j, 0 ≤ (x3 j).toInt ∧ (x3 j).toInt < 6) (b : Fin 4) (t : Fin 128) :
    val_main_v35 (F := Ideal) x3 (ix2 b t) = lookup depTable (x3 (ix2 b t)) := by
  have inside : val_main_call1_v12 (F := Ideal) x3 (ix2 b t) = 1#1 := by
    refine Host.reduce_andi_one _ _ _ _ _ rfl fun i => ?_
    obtain ⟨a, p, rfl⟩ : ∃ a p, i = ix3 a p 0 := ⟨i 0, i 1, by
      rw [eq_ix3 i]; congr 1; exact Subsingleton.elim (α := Fin 1) _ _⟩
    have e : val_main_call1_v11 (F := Ideal) x3 (ix3 a p 0) = IntOp.andi (IntOp.cmpi .sge (val_main_call1_v5 (F := Ideal) x3 (ix3 a p 0)) 0#32)
        (IntOp.cmpi .sle (val_main_call1_v5 (F := Ideal) x3 (ix3 a p 0)) 5#32) := rfl
    rw [e, dep_id x3 a p (h _)]
    exact (idWord _ (h _)).2
  have read : val_main_call1_v13 (F := Ideal) x3 (ix2 b t) = lookup depTable (x3 (ix2 b t)) := by
    have := ValueIdx.gather_take_apply (by decide) gather_S6_S4x128x1_S4x128_n_0_n_n_0_2_1_wf (val_main_v13 (F := Ideal)) (val_main_call1_v5 (F := Ideal) x3) (ix2 b t)
    refine this.trans ?_
    have e : ValueIdx.takeIdx (ix2 b t) = ix3 b t 0 := by
      funext a; match a with | ⟨0, _⟩ => rfl | ⟨1, _⟩ => rfl | ⟨2, _⟩ => rfl
    rw [← ix1_eq_valueIdx, depTable_reads]
    simp only [e, dep_id x3 b t (h _)]
    exact lookup_reads _ _ (h _) _
  show Scalar.select (val_main_call1_v12 (F := Ideal) x3 (ix2 b t)) (val_main_call1_v13 (F := Ideal) x3 (ix2 b t)) _ = _
  rw [inside, read]; rfl

/-! ## Their weighted sum -/

/-- The reference's per-token sum is `base`. -/
theorem base_reads (h0 : ∀ j, 0 ≤ (x0 j).toInt) (h2 : ∀ j, 0 ≤ (x2 j).toInt ∧ (x2 j).toInt < 6) (h3 : ∀ j, 0 ≤ (x3 j).toInt ∧ (x3 j).toInt < 6)
    (b : Fin 4) (t : Fin 128) :
    val_main_v45 (F := Ideal) x0 x2 x3 (ix2 b t) = base (sentence x0 b) (sentence x2 b) (sentence x3 b) t := by
  have e : val_main_v45 (F := Ideal) x0 x2 x3 (ix2 b t) = Ideal.ofBits FTy.f32 1073741824#32
      + Ideal.ofBits FTy.f32 1069547520#32 * val_main_v33 (F := Ideal) x0 (ix2 b t)
      + Ideal.ofBits FTy.f32 1061997773#32 * val_main_v34 (F := Ideal) x2 (ix2 b t)
      + Ideal.ofBits FTy.f32 1056964608#32 * val_main_v35 (F := Ideal) x3 (ix2 b t) := by
    pointwise [val_main_v45, val_main_v44, val_main_v43, val_main_v42, val_main_v41, val_main_v40, val_main_v39, val_main_v38, val_main_v37, val_main_v36, val_main_cst_19, val_main_cst_18, val_main_cst_17, val_main_cst_16]
  rw [e, children x0 h0, pos_weight x2 h2, dep_weight x3 h3]
  rfl

end Cert.Spans
-- ==== Proof.RefProb.lean ====
/- The reference's probabilities: its score array over the temperature, and the softmax of that along the last axis, read at
   one index. -/
module

public import proofs.«01_k».proof.Proof.RefScore

@[expose] public section

set_option maxRecDepth 16384

noncomputable section

namespace Cert.Spans

open Idealize.ShloMosaic Cert.ReferenceIdeal Cert.ReferenceIdeal.Gen Cert.ReferenceIdeal.Read

variable (x0 x2 x3 : (⟨S4x128, .i32⟩ : BufTy).Contents (Elt Ideal))

/-- A position as the float the reference converts it to. -/
abbrev place (t : Fin 128) : EReal := FloatOps.sitofp (F := Ideal) FTy.f32 (BitVec.ofNat 32 t.val)

theorem place_eq (t : Fin 128) : place t = ((t.val : ℝ) : EReal) := sitofp_small t.val (by omega)

/-- The reference's membership bit: `t` lies from `l` to `r`. -/
theorem inside_reads (l r t : Fin 128) :
    val_main_v60 (F := Ideal) (ix3 l r t) = if l ≤ t ∧ t ≤ r then 1#1 else 0#1 := by
  have e : val_main_v60 (F := Ideal) (ix3 l r t) = IntOp.andi
      (BitVec.ofBool (decide (place l ≤ place t)))
      (BitVec.ofBool (decide (place t ≤ place r))) := by
    pointwise [val_main_v60, val_main_v59, val_main_v58, val_main_v57, val_main_v56, val_main_v55, val_main_v54, val_main_v53, val_main_v52, val_main_v51, val_main_v50, val_main_v49, val_main_v48, val_main_v47, val_main_v46]
  rw [e, place_eq, place_eq, place_eq]
  simp only [coe_le_iff]
  by_cases h : l ≤ t <;> by_cases h' : t ≤ r <;> simp [h, h', IntOp.andi]

/-- The reference's distance term. -/
theorem nearness_reads (l r t : Fin 128) : val_main_v75 (F := Ideal) (ix3 l r t) = (nearness l r t : EReal) := by
  have e : val_main_v75 (F := Ideal) (ix3 l r t) = Ideal.ofBits FTy.f32 1056964608#32 * Ideal.div 1
      (1 + (FloatOps.absf (φ := .f32) (place t - Ideal.div (place l
        + place r) (Ideal.ofBits FTy.f32 1073741824#32) : Ideal .f32) : Ideal .f32)) := by
    pointwise [val_main_v75, val_main_v74, val_main_v73, val_main_v72, val_main_v71, val_main_v70, val_main_v69, val_main_v68, val_main_v67, val_main_v66, val_main_v65, val_main_v64, val_main_v63, val_main_v62, val_main_v61, val_main_v51, val_main_v50, val_main_v49, val_main_v48, val_main_v47, val_main_v46, val_main_cst_23, val_main_cst_22, val_main_cst_21, val_main_cst_20]
  rw [e, place_eq, place_eq, place_eq, nearness_reference]

section

variable (h0 : ∀ j, 0 ≤ (x0 j).toInt) (h2 : ∀ j, 0 ≤ (x2 j).toInt ∧ (x2 j).toInt < 6) (h3 : ∀ j, 0 ≤ (x3 j).toInt ∧ (x3 j).toInt < 6)

include h0 h2 h3

/-- The reference's score over the temperature. -/
theorem logit_reads (b : Fin 4) (l r t : Fin 128) :
    val_main_v84 (F := Ideal) x0 x2 x3 (ix4 b l r t) = logit (sentence x0 b) (sentence x2 b) (sentence x3 b) l r t := by
  have fixed : val_main_v79 (F := Ideal) x0 x2 x3 (ix4 b l r t) = base (sentence x0 b) (sentence x2 b) (sentence x3 b) t := by
    rw [val_main_v79_apply, val_main_v77_apply]
    have : idx_main_v77 (idx_main_v79 (ix4 b l r t)) = ix2 b t := by
      funext a; match a with | ⟨0, _⟩ => rfl | ⟨1, _⟩ => rfl
    rw [this, base_reads x0 x2 x3 h0 h2 h3]
  have near : val_main_v80 (F := Ideal) (ix4 b l r t) = (nearness l r t : EReal) := by
    rw [val_main_v80_apply, val_main_v78_apply]
    have : idx_main_v78 (idx_main_v80 (ix4 b l r t)) = ix3 l r t := by
      funext a; match a with | ⟨0, _⟩ => rfl | ⟨1, _⟩ => rfl | ⟨2, _⟩ => rfl
    rw [this, nearness_reads]
  have bit : val_main_call2_v1 (F := Ideal) (ix4 b l r t) = if l ≤ t ∧ t ≤ r then 1#1 else 0#1 := by
    rw [val_main_call2_v1_apply, val_main_v76_apply]
    have : idx_main_v76 (idx_main_call2_v1 (ix4 b l r t)) = ix3 l r t := by
      funext a; match a with | ⟨0, _⟩ => rfl | ⟨1, _⟩ => rfl | ⟨2, _⟩ => rfl
    rw [this, inside_reads]
  have zero : val_main_call2_v2 (F := Ideal) (ix4 b l r t) = 0 := by
    rw [val_main_call2_v2_apply, val_main_call2_v0_apply]
    exact Ideal.ofBits_zero_f32
  have temp : val_main_v83 (F := Ideal) (ix4 b l r t) = Ideal.ofBits .f32 1060320051#32 := by
    rw [val_main_v83_apply]; rfl
  rw [val_main_v84_apply, val_main_v82_apply, val_main_v81_apply, fixed, near, bit, zero, temp]
  unfold logit score
  rw [Ideal.hostDivf_def]
  congr 1
  by_cases h : l ≤ t ∧ t ≤ r
  · rw [if_pos h, if_pos h]; rfl
  · rw [if_neg h, if_neg h]; rfl

/-- What the reference subtracts from a row: the row's running maximum. -/
theorem rowMax_reads (b : Fin 4) (l r t : Fin 128) :
    val_main_v89 (F := Ideal) x0 x2 x3 (ix4 b l r t)
      = Finset.univ.fold max ⊥ (logit (sentence x0 b) (sentence x2 b) (sentence x3 b) l r) := by
  have e : val_main_v85 (F := Ideal) x0 x2 x3 (ix3 b l r) = Finset.univ.fold max (Ideal.ofBits FTy.f32 4286578688#32)
      (fun t => val_main_v84 (F := Ideal) x0 x2 x3 (ix4 b l r t)) := by
    unfold val_main_v85
    generalize val_main_v84 (F := Ideal) x0 x2 x3 = bs
    pointwise [val_main_cst_26]
  have e' : val_main_v89 (F := Ideal) x0 x2 x3 (ix4 b l r t) = max (Ideal.ofBits FTy.f32 4286578688#32) (val_main_v85 (F := Ideal) x0 x2 x3 (ix3 b l r)) := by
    rw [val_main_v89_apply, val_main_v88_apply, val_main_v87_apply, val_main_v86_apply, val_main_cst_27_apply]
    have : idx_main_v88 (idx_main_v89 (ix4 b l r t)) = ix3 b l r := by
      funext a; match a with | ⟨0, _⟩ => rfl | ⟨1, _⟩ => rfl | ⟨2, _⟩ => rfl
    rw [this]; rfl
  rw [e', e, word_negInf, max_eq_right bot_le]
  simp only [logit_reads x0 x2 x3 h0 h2 h3]

/-- The exponentials. -/
theorem exp_reads (b : Fin 4) (l r t : Fin 128) :
    val_main_v91 (F := Ideal) x0 x2 x3 (ix4 b l r t)
      = Ideal.exp (logit (sentence x0 b) (sentence x2 b) (sentence x3 b) l r t
          - Finset.univ.fold max ⊥ (logit (sentence x0 b) (sentence x2 b) (sentence x3 b) l r)) := by
  rw [val_main_v91_apply, val_main_v90_apply, logit_reads x0 x2 x3 h0 h2 h3, rowMax_reads x0 x2 x3 h0 h2 h3]
  rfl

/-- The reference's probabilities. -/
theorem prob_reads (b : Fin 4) (l r t : Fin 128) :
    val_main_v95 (F := Ideal) x0 x2 x3 (ix4 b l r t) = prob (sentence x0 b) (sentence x2 b) (sentence x3 b) l r t := by
  have e : val_main_v94 (F := Ideal) x0 x2 x3 (ix4 b l r t)
      = ∑ s : Fin 128, Ideal.exp (logit (sentence x0 b) (sentence x2 b) (sentence x3 b) l r s
          - Finset.univ.fold max ⊥ (logit (sentence x0 b) (sentence x2 b) (sentence x3 b) l r)) := by
    rw [val_main_v94_apply, val_main_v93_apply]
    have : idx_main_v93 (idx_main_v94 (ix4 b l r t)) = ix3 b l r := by
      funext a; match a with | ⟨0, _⟩ => rfl | ⟨1, _⟩ => rfl | ⟨2, _⟩ => rfl
    rw [this, val_main_v92_apply]
    have z : val_main_cst_28 (F := Ideal) (Shape.Idx.first h_S_) = 0 := Ideal.ofBits_zero_f32
    rw [z, zero_add]
    refine Finset.sum_congr rfl fun s _ => ?_
    have : idx_main_v92 (ix3 b l r) s = ix4 b l r s := by
      funext a; match a with | ⟨0, _⟩ => rfl | ⟨1, _⟩ => rfl | ⟨2, _⟩ => rfl | ⟨3, _⟩ => rfl
    rw [this, exp_reads x0 x2 x3 h0 h2 h3]
  rw [val_main_v95_apply, exp_reads x0 x2 x3 h0 h2 h3, e, Ideal.hostDivf_def]
  rfl

end

end Cert.Spans
-- ==== Proof.RefValue.lean ====
/- The reference's three results as functions of its arguments. -/
module

public import proofs.«01_k».proof.Proof.RefProb
public import proofs.«01_k».proof.Proof.Gen.ReferenceIdeal.Run

@[expose] public section

set_option maxRecDepth 16384

noncomputable section

namespace Cert.Spans

open Idealize.ShloMosaic Idealize.ShloMosaic.StableHlo Idealize.SL.Sem Cert.ReferenceIdeal Cert.ReferenceIdeal.Gen Cert.ReferenceIdeal.Read

/-! ## The top places of a row -/

/-- The comparison of the total order, at the real order. -/
theorem greater_bit (u v : EReal) :
    ((FloatOps.cmpfTotal (F := Ideal) (φ := .f32) .gt u v : BitVec 1) == 1#1) = decide (v < u) := by
  have e : (FloatOps.cmpfTotal (F := Ideal) (φ := .f32) .gt u v : BitVec 1) = BitVec.ofBool (decide (v < u)) := rfl
  rw [e]
  by_cases h : v < u <;> simp [h]

theorem last_axis : 3 < S4x128x128x128.rank := by decide

/-- A position along the last axis of the row through an index. -/
theorem along_last (b : Fin 4) (l r t : Fin 128) (t' : Fin 128) :
    Shape.Idx.along (s := S4x128x128x128) (ix4 b l r t) ⟨3, last_axis⟩ t' = ix4 b l r t' := by
  funext a
  match a with
  | ⟨0, _⟩ => rfl
  | ⟨1, _⟩ => rfl
  | ⟨2, _⟩ => rfl
  | ⟨3, _⟩ => rfl

/-- The counter along the last axis, at an index. -/
theorem iota_last (b : Fin 4) (l r t : Fin 128) :
    iotaInDim S4x128x128x128 32 ⟨3, last_axis⟩ (ix4 b l r t) = BitVec.ofNat 32 t.val := rfl

/-- The index of the whole row that a slice from 0 takes. -/
theorem slice_index {α : Type} (y : S4x128x128x128.Idx → α) (b : Fin 4) (l r : Fin 128) (k : Fin 3) :
    extractStridedSlice S4x128x128x3 (fun _ => 0) y sliceFits_S4x128x128x128_S4x128x128x3 (ix4 b l r k)
      = y (ix4 b l r ⟨k.val, by omega⟩) := by
  unfold extractStridedSlice
  congr 1
  funext a
  match a with
  | ⟨0, _⟩ => exact Fin.ext (Nat.zero_add _)
  | ⟨1, _⟩ => exact Fin.ext (Nat.zero_add _)
  | ⟨2, _⟩ => exact Fin.ext (Nat.zero_add _)
  | ⟨3, _⟩ => exact Fin.ext (Nat.zero_add _)

/-- The position a row's sort puts at place `t`. -/
theorem sorted_position (x : FVec Ideal S4x128x128x128 .f32) (b : Fin 4) (l r t : Fin 128) :
    sortedFrom (fun k k' : Fin 128 => FloatOps.cmpfTotal (F := Ideal) (φ := .f32) .gt
        (x (Shape.Idx.along (s := S4x128x128x128) (ix4 b l r t) ⟨3, last_axis⟩ k))
        (x (Shape.Idx.along (s := S4x128x128x128) (ix4 b l r t) ⟨3, last_axis⟩ k')) == 1#1) t
      = order (fun t => x (ix4 b l r t)) t := by
  unfold order
  congr 1
  funext k k'
  rw [along_last, along_last]
  exact greater_bit _ _

/-- The values a top-k returns along the last axis: those at the places of the stable descending sort. -/
theorem topK_values (x : FVec Ideal S4x128x128x128 .f32) (b : Fin 4) (l r : Fin 128) (k : Fin 3) :
    (Host.topK S4x128x128x3 3 (FloatOps.cmpfTotal (F := Ideal) (φ := .f32) .gt) x sliceFits_S4x128x128x128_S4x128x128x3).1 (ix4 b l r k)
      = x (ix4 b l r (order (fun t => x (ix4 b l r t)) ⟨k.val, by omega⟩)) := by
  unfold Host.topK Host.sort2
  dsimp only
  rw [slice_index, dif_pos last_axis]
  dsimp only
  refine (congrArg x (along_last b l r _ _)).trans ?_
  rw [← sorted_position]
  rfl

/-- The positions it returns beside them. -/
theorem topK_indices (x : FVec Ideal S4x128x128x128 .f32) (b : Fin 4) (l r : Fin 128) (k : Fin 3) :
    (Host.topK S4x128x128x3 3 (FloatOps.cmpfTotal (F := Ideal) (φ := .f32) .gt) x sliceFits_S4x128x128x128_S4x128x128x3).2 (ix4 b l r k)
      = BitVec.ofNat 32 (order (fun t => x (ix4 b l r t)) ⟨k.val, by omega⟩).val := by
  unfold Host.topK Host.sort2
  dsimp only
  rw [slice_index, dif_pos last_axis]
  dsimp only
  rw [dif_pos last_axis]
  refine (congrArg (iotaInDim S4x128x128x128 32 ⟨3, last_axis⟩) (along_last b l r _ _)).trans ?_
  refine (iota_last b l r _).trans ?_
  rw [← sorted_position]
  rfl

/-! ## The valid spans -/

theorem valid_reads (l r : Fin 128) : val_main_v103 (F := Ideal) (ix2 l r) = if l ≤ r then 1#1 else 0#1 := by
  have e : val_main_v103 (F := Ideal) (ix2 l r) = IntOp.cmpi .sge (BitVec.ofNat 32 r.val) (BitVec.ofNat 32 l.val) := by
    pointwise [val_main_v103, val_main_v102, val_main_v101, val_main_v100, val_main_v99, val_main_v98, val_main_v97]
  rw [e]
  simp only [IntOp.cmpi, BitVec.sle, WordArith.toInt_ofNat_small _ (show l.val < 2 ^ 31 by omega), WordArith.toInt_ofNat_small _ (show r.val < 2 ^ 31 by omega), Nat.cast_le, Fin.le_def]
  by_cases h : l.val ≤ r.val <;> simp [h]

/-- The valid bit as a number. -/
theorem bit_value (p : Prop) [Decidable p] :
    (FloatOps.uitofp (F := Ideal) .f32 (if p then 1#1 else 0#1) : EReal) = if p then 1 else 0 := by
  by_cases h : p
  · rw [if_pos h, if_pos h]; show (((1#1).toNat : ℝ) : EReal) = 1; simp
  · rw [if_neg h, if_neg h]; show (((0#1).toNat : ℝ) : EReal) = 0; simp

section

variable (x0 x2 x3 : (⟨S4x128, .i32⟩ : BufTy).Contents (Elt Ideal)) (x1 : (⟨S4x128x128, .f32⟩ : BufTy).Contents (Elt Ideal))
  (h0 : ∀ j, 0 ≤ (x0 j).toInt) (h2 : ∀ j, 0 ≤ (x2 j).toInt ∧ (x2 j).toInt < 6) (h3 : ∀ j, 0 ≤ (x3 j).toInt ∧ (x3 j).toInt < 6)

include h0 h2 h3

theorem softHeads_reads : val_main_v107 (F := Ideal) x0 x1 x2 x3
    = fun j : S4x128x128x128.Idx => softHeads x0 x1 x2 x3 (j 0) (j 1) (j 2) (j 3) := by
  funext j
  obtain ⟨b, l, r, d, rfl⟩ : ∃ b l r d, j = ix4 b l r d := ⟨j 0, j 1, j 2, j 3, eta4 j⟩
  have sum : val_main_v96 (F := Ideal) x0 x1 x2 x3 (ix4 b l r d)
      = ∑ t : Fin 128, prob (sentence x0 b) (sentence x2 b) (sentence x3 b) l r t * x1 (ix3 b d t) := by
    rw [val_main_v96_apply]
    refine Finset.sum_congr rfl fun t _ => ?_
    have e : lidx_main_v96 (ix4 b l r d) t = ix4 b l r t := by
      funext a; match a with | ⟨0, _⟩ => rfl | ⟨1, _⟩ => rfl | ⟨2, _⟩ => rfl | ⟨3, _⟩ => rfl
    have e' : idx_main_v14 (ridx_main_v96 (ix4 b l r d) t) = ix3 b d t := by
      funext a; match a with | ⟨0, _⟩ => rfl | ⟨1, _⟩ => rfl | ⟨2, _⟩ => rfl
    rw [e, val_main_v14_apply, e', prob_reads x0 x2 x3 h0 h2 h3]
  have bit : val_main_v106 (F := Ideal) (ix4 b l r d) = if l ≤ r then 1 else 0 := by
    rw [val_main_v106_apply, val_main_v105_apply, val_main_v104_apply]
    have e : idx_main_v104 (idx_main_v106 (ix4 b l r d)) = ix2 l r := by
      funext a; match a with | ⟨0, _⟩ => rfl | ⟨1, _⟩ => rfl
    rw [e, valid_reads, bit_value]
  rw [val_main_v107_apply, sum, bit]
  show _ * _ = softHeads x0 x1 x2 x3 b l r d
  unfold softHeads
  by_cases h : l ≤ r
  · rw [if_pos h, if_pos h, mul_one]
  · rw [if_neg h, if_neg h, mul_zero]

theorem topWeights_reads : val_main_v111 (F := Ideal) x0 x2 x3
    = fun j : S4x128x128x3.Idx => topWeights x0 x2 x3 (j 0) (j 1) (j 2) (j 3) := by
  funext j
  obtain ⟨b, l, r, k, rfl⟩ : ∃ b l r k, j = ix4 b l r k := ⟨j 0, j 1, j 2, j 3, eta4 j⟩
  have val : val_main_values (F := Ideal) x0 x2 x3 (ix4 b l r k)
      = prob (sentence x0 b) (sentence x2 b) (sentence x3 b) l r (head (sentence x0 b) (sentence x2 b) (sentence x3 b) l r ⟨k.val, by omega⟩) := by
    unfold val_main_values
    rw [topK_values]
    simp only [prob_reads x0 x2 x3 h0 h2 h3]
    rfl
  have bit : val_main_v110 (F := Ideal) (ix4 b l r k) = if l ≤ r then 1 else 0 := by
    rw [val_main_v110_apply, val_main_v109_apply, val_main_v108_apply]
    have e : idx_main_v108 (idx_main_v110 (ix4 b l r k)) = ix2 l r := by
      funext a; match a with | ⟨0, _⟩ => rfl | ⟨1, _⟩ => rfl
    rw [e, valid_reads, bit_value]
  rw [val_main_v111_apply, val, bit]
  show _ * _ = topWeights x0 x2 x3 b l r k
  unfold topWeights
  by_cases h : l ≤ r
  · rw [if_pos h, if_pos h, mul_one]
  · rw [if_neg h, if_neg h, mul_zero]

theorem topPlaces_reads : val_main_v113 (F := Ideal) x0 x2 x3
    = fun j : S4x128x128x3.Idx => topPlaces x0 x2 x3 (j 0) (j 1) (j 2) (j 3) := by
  funext j
  obtain ⟨b, l, r, k, rfl⟩ : ∃ b l r k, j = ix4 b l r k := ⟨j 0, j 1, j 2, j 3, eta4 j⟩
  have val : val_main_indices (F := Ideal) x0 x2 x3 (ix4 b l r k)
      = BitVec.ofNat 32 (head (sentence x0 b) (sentence x2 b) (sentence x3 b) l r ⟨k.val, by omega⟩).val := by
    unfold val_main_indices
    rw [topK_indices]
    simp only [prob_reads x0 x2 x3 h0 h2 h3]
    rfl
  have bit : val_main_call3_v1 (F := Ideal) (ix4 b l r k) = if l ≤ r then 1#1 else 0#1 := by
    rw [val_main_call3_v1_apply, val_main_v112_apply]
    have e : idx_main_v112 (idx_main_call3_v1 (ix4 b l r k)) = ix2 l r := by
      funext a; match a with | ⟨0, _⟩ => rfl | ⟨1, _⟩ => rfl
    rw [e, valid_reads]
  have none : val_main_call3_v2 (F := Ideal) (ix4 b l r k) = 4294967295#32 := by
    rw [val_main_call3_v2_apply]; rfl
  rw [val_main_v113_apply, val, bit, none, select_valid]
  rfl

end

/-! ## The run -/

/-- The reference runs to its end with the three results as stated and its arguments as they were, when every parent is
    not negative and every id is one of 0 to 5. -/
theorem reference_run (m : (ℓ : Loc nD τ sig) → Buf (Elt Ideal) ℓ) (ρ : Dev nD → PrngReg)
    (x0 x2 x3 : Dev nD → (⟨S4x128, .i32⟩ : BufTy).Contents (Elt Ideal)) (x1 : Dev nD → (⟨S4x128x128, .f32⟩ : BufTy).Contents (Elt Ideal))
    (e0 : ∀ c : Dev nD, m ((c.tc : Thread nD τ).loc main_arg0) = x0 c) (e1 : ∀ c : Dev nD, m ((c.tc : Thread nD τ).loc main_arg1) = x1 c)
    (e2 : ∀ c : Dev nD, m ((c.tc : Thread nD τ).loc main_arg2) = x2 c) (e3 : ∀ c : Dev nD, m ((c.tc : Thread nD τ).loc main_arg3) = x3 c)
    (h0 : ∀ c j, 0 ≤ (x0 c j).toInt) (h2 : ∀ c j, 0 ≤ (x2 c j).toInt ∧ (x2 c j).toInt < 6) (h3 : ∀ c j, 0 ≤ (x3 c j).toInt ∧ (x3 c j).toInt < 6) :
    θ_run defs (onTc (τ := τ) (main (F := Ideal))) ⟨m, fun _ => 0, ρ⟩ (fun r => ∀ c : Dev nD,
      r.2.mem ((c.tc : Thread nD τ).loc main_v107)
        = (fun j : S4x128x128x128.Idx => softHeads (x0 c) (x1 c) (x2 c) (x3 c) (j 0) (j 1) (j 2) (j 3))
      ∧ r.2.mem ((c.tc : Thread nD τ).loc main_v111)
        = (fun j : S4x128x128x3.Idx => topWeights (x0 c) (x2 c) (x3 c) (j 0) (j 1) (j 2) (j 3))
      ∧ r.2.mem ((c.tc : Thread nD τ).loc main_v113)
        = (fun j : S4x128x128x3.Idx => topPlaces (x0 c) (x2 c) (x3 c) (j 0) (j 1) (j 2) (j 3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun _ h c => ⟨(h c).1.trans ?_, (h c).2.1.trans ?_, (h c).2.2.1.trans ?_, (h c).2.2.2⟩)
    (Cert.ReferenceIdeal.Value.run (F := Ideal) m ρ)
  · rw [← softHeads_reads (x0 c) (x2 c) (x3 c) (x1 c) (h0 c) (h2 c) (h3 c), ← e0 c, ← e1 c, ← e2 c, ← e3 c]
    exact val_main_v107_eq (launchContents m c)
  · rw [← topWeights_reads (x0 c) (x2 c) (x3 c) (h0 c) (h2 c) (h3 c), ← e0 c, ← e2 c, ← e3 c]
    exact val_main_v111_eq (launchContents m c)
  · rw [← topPlaces_reads (x0 c) (x2 c) (x3 c) (h0 c) (h2 c) (h3 c), ← e0 c, ← e2 c, ← e3 c]
    exact val_main_v113_eq (launchContents m c)

end Cert.Spans
-- ==== Proof.Range.lean ====
/- The precondition's three arrays of bits, read back: no parent is negative, and every id is one of 0 to 5. -/
module

public import proofs.«01_k».proof.Proof.Gen.Pre_ids_in_range
public import Idealize.ShloMosaic.PureOps.Ideal

@[expose] public section

noncomputable section

namespace Cert.Spans

open Idealize.ShloMosaic Cert.Pre_ids_in_range Cert.Pre_ids_in_range.Gen

theorem nonneg_of_bit (w : BitVec 32) (h : IntOp.cmpi .sge w 0#32 = 1#1) : 0 ≤ w.toInt := by
  by_contra hn
  simp [IntOp.cmpi, BitVec.sle, hn] at h

theorem below_of_bit (w : BitVec 32) (h : IntOp.cmpi .slt w 6#32 = 1#1) : w.toInt < 6 := by
  by_contra hn
  have : BitVec.toInt 6#32 = 6 := rfl
  simp [IntOp.cmpi, BitVec.slt, this, hn] at h

theorem both_of_bit (u v : BitVec 1) (h : IntOp.andi u v = 1#1) : u = 1#1 ∧ v = 1#1 := by
  revert u v; decide

theorem id_of_bit (w : BitVec 32) (h : IntOp.andi (IntOp.cmpi .sge w 0#32) (IntOp.cmpi .slt w 6#32) = 1#1) :
    0 ≤ w.toInt ∧ w.toInt < 6 :=
  have hh := both_of_bit _ _ h
  ⟨nonneg_of_bit w hh.1, below_of_bit w hh.2⟩

variable (x0 x2 x3 : IVec S4x128 32) (x1 : FVec Ideal S4x128x128 .f32)

theorem parents_in_range (h : (Cert.Pre_ids_in_range.fn (F := Ideal) x0 x1 x2 x3).1 = fun _ => 1#1) (j : S4x128.Idx) : 0 ≤ (x0 j).toInt :=
  nonneg_of_bit _ (congrFun h j)

theorem pos_in_range (h : (Cert.Pre_ids_in_range.fn (F := Ideal) x0 x1 x2 x3).2.1 = fun _ => 1#1) (j : S4x128.Idx) :
    0 ≤ (x2 j).toInt ∧ (x2 j).toInt < 6 :=
  id_of_bit _ (congrFun h j)

theorem rel_in_range (h : (Cert.Pre_ids_in_range.fn (F := Ideal) x0 x1 x2 x3).2.2 = fun _ => 1#1) (j : S4x128.Idx) :
    0 ≤ (x3 j).toInt ∧ (x3 j).toInt < 6 :=
  id_of_bit _ (congrFun h j)

end Cert.Spans
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import proofs.«01_k».proof.Proof.Gen.ReferenceIdeal.Run
public import proofs.«01_k».proof.Proof.Gen.ReferenceIdeal.Read
public import proofs.«01_k».proof.Proof.Gen.Pre_ids_in_range
public import proofs.«01_k».proof.Proof.KernelValue
public import proofs.«01_k».proof.Proof.RefValue
public import proofs.«01_k».proof.Proof.Range

@[expose] public section

noncomputable section

namespace Cert.Proof

open Idealize.ShloMosaic Idealize.SL.Sem Cert.Kernel

/-- The reference runs to its end, leaves its arguments as they were, and declares no semaphore. -/
theorem frame_reference : Cert.quiescent_ReferenceIdeal := fun m ρ _ =>
  (θ_run Cert.ReferenceIdeal.defs _ _).mono
    (fun r h => ⟨fun c => (h c).2.2.2, sem_eq_zero_of_no_sems (by decide) r.2⟩)
    (Cert.ReferenceIdeal.Value.run (F := Ideal) m ρ)

/-- The kernel's results are the reference's, element by element, on arguments in range. -/
theorem algebraic : Cert.algebraic_KernelIdeal_ReferenceIdeal_pre_ids_in_range := fun m g m' g' pre agree =>
  ⟨_, _, _, Cert.Spans.kernel_run m g,
    Cert.Spans.reference_run m' g' (Cert.Spans.arg0 m) (Cert.Spans.arg2 m) (Cert.Spans.arg3 m) (Cert.Spans.arg1 m)
      (fun c => (agree c).1) (fun c => (agree c).2.1) (fun c => (agree c).2.2.1) (fun c => (agree c).2.2.2)
      (fun c => Cert.Spans.parents_in_range _ _ _ _ (pre c).1) (fun c => Cert.Spans.pos_in_range _ _ _ _ (pre c).2.1)
      (fun c => Cert.Spans.rel_in_range _ _ _ _ (pre c).2.2)⟩

theorem claim : Cert.Claim :=
  ⟨Cert.Kernel.Gen.facts, Cert.KernelIdeal.Gen.facts, Cert.ReferenceIdeal.Gen.facts, Cert.Pre_ids_in_range.Gen.facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial, trivial, algebraic⟩

end Cert.Proof

end
